-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)) (v8 : (c : Dev Cert.Kernel2Ideal.nD) → Buf (Elt Ideal) ((c.tc : Thread Cert.Kernel2Ideal.nD Cert.Kernel2Ideal.τ).loc Cert.Kernel2Ideal.main_v8_8)) (v9 : (c : Dev Cert.Kernel2Ideal.nD) → Buf (Elt Ideal) ((c.tc : Thread Cert.Kernel2Ideal.nD Cert.Kernel2Ideal.τ).loc Cert.Kernel2Ideal.main_v8_9)) (v10 : (c : Dev Cert.Kernel2Ideal.nD) → Buf (Elt Ideal) ((c.tc : Thread Cert.Kernel2Ideal.nD Cert.Kernel2Ideal.τ).loc Cert.Kernel2Ideal.main_v8_10)) (v11 : (c : Dev Cert.Kernel2Ideal.nD) → Buf (Elt Ideal) ((c.tc : Thread Cert.Kernel2Ideal.nD Cert.Kernel2Ideal.τ).loc Cert.Kernel2Ideal.main_v8_11)) (v12 : (c : Dev Cert.Kernel2Ideal.nD) → Buf (Elt Ideal) ((c.tc : Thread Cert.Kernel2Ideal.nD Cert.Kernel2Ideal.τ).loc Cert.Kernel2Ideal.main_v8_12)) (v13 : (c : Dev Cert.Kernel2Ideal.nD) → Buf (Elt Ideal) ((c.tc : Thread Cert.Kernel2Ideal.nD Cert.Kernel2Ideal.τ).loc Cert.Kernel2Ideal.main_v8_13)) (v14 : (c : Dev Cert.Kernel2Ideal.nD) → Buf (Elt Ideal) ((c.tc : Thread Cert.Kernel2Ideal.nD Cert.Kernel2Ideal.τ).loc Cert.Kernel2Ideal.main_v8_14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_v8_8) = v8 c
          ∧ r.2.mem ((c.tc : Thread Cert.Kernel2Ideal.nD Cert.Kernel2Ideal.τ).loc Cert.Kernel2Ideal.main_v8_9) = v9 c
          ∧ r.2.mem ((c.tc : Thread Cert.Kernel2Ideal.nD Cert.Kernel2Ideal.τ).loc Cert.Kernel2Ideal.main_v8_10) = v10 c
          ∧ r.2.mem ((c.tc : Thread Cert.Kernel2Ideal.nD Cert.Kernel2Ideal.τ).loc Cert.Kernel2Ideal.main_v8_11) = v11 c
          ∧ r.2.mem ((c.tc : Thread Cert.Kernel2Ideal.nD Cert.Kernel2Ideal.τ).loc Cert.Kernel2Ideal.main_v8_12) = v12 c
          ∧ r.2.mem ((c.tc : Thread Cert.Kernel2Ideal.nD Cert.Kernel2Ideal.τ).loc Cert.Kernel2Ideal.main_v8_13) = v13 c
          ∧ r.2.mem ((c.tc : Thread Cert.Kernel2Ideal.nD Cert.Kernel2Ideal.τ).loc Cert.Kernel2Ideal.main_v8_14) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_v17) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v20) = v6 c
          ∧ r.2.mem ((c.tc : Thread Cert.Reference2Ideal.nD Cert.Reference2Ideal.τ).loc Cert.Reference2Ideal.main_v27) = v7 c
          ∧ r.2.mem ((c.tc : Thread Cert.Reference2Ideal.nD Cert.Reference2Ideal.τ).loc Cert.Reference2Ideal.main_v24) = v8 c
          ∧ r.2.mem ((c.tc : Thread Cert.Reference2Ideal.nD Cert.Reference2Ideal.τ).loc Cert.Reference2Ideal.main_v25) = v9 c
          ∧ r.2.mem ((c.tc : Thread Cert.Reference2Ideal.nD Cert.Reference2Ideal.τ).loc Cert.Reference2Ideal.main_v35) = v10 c
          ∧ r.2.mem ((c.tc : Thread Cert.Reference2Ideal.nD Cert.Reference2Ideal.τ).loc Cert.Reference2Ideal.main_v36) = v11 c
          ∧ r.2.mem ((c.tc : Thread Cert.Reference2Ideal.nD Cert.Reference2Ideal.τ).loc Cert.Reference2Ideal.main_v37) = v12 c
          ∧ r.2.mem ((c.tc : Thread Cert.Reference2Ideal.nD Cert.Reference2Ideal.τ).loc Cert.Reference2Ideal.main_v38) = v13 c
          ∧ r.2.mem ((c.tc : Thread Cert.Reference2Ideal.nD Cert.Reference2Ideal.τ).loc Cert.Reference2Ideal.main_v40) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x512 : Shape := ⟨3, ![4, 8192, 512]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part2 {F : FTy → Type} [FloatOps F] (main_v31 : IVec S_ 1) (main_v34 : IVec S64 1) : IVec S_ 1 :=
  let main_c_11 : IVec S_ 1 := constantI S_ 1 1#1
  let main_v35 : IVec S_ 1 := (fun x v => Host.reduce IntOp.andi x v reducesTo_S64_S_d0 h_S_) main_v34 main_c_11
  let main_v36 : IVec S_ 1 := andi main_v31 main_v35
  main_v36

def fn_part1 {F : FTy → Type} [FloatOps F] (main_arg4 : FVec F S64 .f32) (main_arg5 : FVec F S64 .f32) (main_arg6 : FVec F S64 .f32) (main_v16 : IVec S_ 1) (main_v17 : FVec F S64 .f32) : IVec S_ 1 :=
  let main_cst_4 : FVec F S_ .f32 := constant S_ .f32 0x7F800000#32
  let main_v18 : FVec F S64 .f32 := broadcastInDim S64 ![] bcast_S_S64 main_cst_4
  let main_v19 : IVec S64 1 := cmpf .olt main_v17 main_v18
  let main_c_5 : IVec S_ 1 := constantI S_ 1 1#1
  let main_v20 : IVec S_ 1 := (fun x v => Host.reduce IntOp.andi x v reducesTo_S64_S_d0 h_S_) main_v19 main_c_5
  let main_v21 : IVec S_ 1 := andi main_v16 main_v20
  let main_v22 : FVec F S64 .f32 := Host.absf main_arg4
  let main_cst_6 : FVec F S_ .f32 := constant S_ .f32 0x7F800000#32
  let main_v23 : FVec F S64 .f32 := broadcastInDim S64 ![] bcast_S_S64 main_cst_6
  let main_v24 : IVec S64 1 := cmpf .olt main_v22 main_v23
  let main_c_7 : IVec S_ 1 := constantI S_ 1 1#1
  let main_v25 : IVec S_ 1 := (fun x v => Host.reduce IntOp.andi x v reducesTo_S64_S_d0 h_S_) main_v24 main_c_7
  let main_v26 : IVec S_ 1 := andi main_v21 main_v25
  let main_v27 : FVec F S64 .f32 := Host.absf main_arg5
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_c_9 : IVec S_ 1 := constantI S_ 1 1#1
  let main_v30 : IVec S_ 1 := (fun x v => Host.reduce IntOp.andi x v reducesTo_S64_S_d0 h_S_) main_v29 main_c_9
  let main_v31 : IVec S_ 1 := andi main_v26 main_v30
  let main_v32 : FVec F S64 .f32 := Host.absf main_arg6
  let main_cst_10 : FVec F S_ .f32 := constant S_ .f32 0x7F800000#32
  let main_v33 : FVec F S64 .f32 := broadcastInDim S64 ![] bcast_S_S64 main_cst_10
  let main_v34 : IVec S64 1 := cmpf .olt main_v32 main_v33
  fn_part2 (F := F) main_v31 main_v34

def fn {F : FTy → Type} [FloatOps F] (main_arg0 : FVec F S4x8192x512 .bf16) (main_arg1 : FVec F S4x8192x512 .bf16) (main_arg2 : FVec F S4x8192x512 .bf16) (main_arg3 : FVec F S64 .f32) (main_arg4 : FVec F S64 .f32) (main_arg5 : FVec F S64 .f32) (main_arg6 : FVec F S64 .f32) (main_arg7 : FVec F S128 .f32) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : IVec S_ 1 := andi main_v4 main_v9
  let main_v11 : FVec F S4x8192x512 .f32 := (extf .f32 · bitsLt_bf16_f32) main_arg2
  let main_v12 : FVec F S4x8192x512 .f32 := Host.absf main_v11
  let main_cst_2 : FVec F S_ .f32 := constant S_ .f32 0x7F800000#32
  let main_v13 : FVec F S4x8192x512 .f32 := broadcastInDim S4x8192x512 ![] bcast_S_S4x8192x512 main_cst_2
  let main_v14 : IVec S4x8192x512 1 := cmpf .olt main_v12 main_v13
  let main_c_3 : IVec S_ 1 := constantI S_ 1 1#1
  let main_v15 : IVec S_ 1 := (fun x v => Host.reduce IntOp.andi x v reducesTo_S4x8192x512_S_d0_1_2 h_S_) main_v14 main_c_3
  let main_v16 : IVec S_ 1 := andi main_v10 main_v15
  let main_v17 : FVec F S64 .f32 := Host.absf main_arg3
  fn_part1 (F := F) main_arg4 main_arg5 main_arg6 main_v16 main_v17
-- ==== Kernel.lean ====
abbrev S4x8192x512 : Shape := ⟨3, ![4, 8192, 512]⟩
abbrev S64 : Shape := ⟨1, ![64]⟩
abbrev S128 : Shape := ⟨1, ![128]⟩
abbrev S_ : Shape := ⟨0, ![]⟩
abbrev S1x128 : Shape := ⟨2, ![1, 128]⟩
abbrev S1x128x128 : Shape := ⟨3, ![1, 128, 128]⟩
abbrev S1x8192x128 : Shape := ⟨3, ![1, 8192, 128]⟩
abbrev S2x128x1 : Shape := ⟨3, ![2, 128, 1]⟩
abbrev S2x128x128 : Shape := ⟨3, ![2, 128, 128]⟩
abbrev S128x128 : Shape := ⟨2, ![128, 128]⟩
abbrev S128x1 : Shape := ⟨2, ![128, 1]⟩
abbrev S1x512x128 : Shape := ⟨3, ![1, 512, 128]⟩
abbrev S512x128 : Shape := ⟨2, ![512, 128]⟩
abbrev S128x512 : Shape := ⟨2, ![128, 512]⟩
abbrev S1x128x1 : Shape := ⟨3, ![1, 128, 1]⟩
abbrev S1x512 : Shape := ⟨2, ![1, 512]⟩

abbrev nBuf : Space → Nat
  | .hbm => 22
  | .vmem => 13
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S1x128, .f32⟩
  | .hbm, ⟨21, _⟩ => ⟨S4x8192x512, .bf16⟩
  | .local _ .vmem, ⟨0, _⟩ => ⟨S1x128, .f32⟩
  | .local _ .vmem, ⟨1, _⟩ => ⟨S1x128, .f32⟩
  | .local _ .vmem, ⟨2, _⟩ => ⟨S1x128x128, .bf16⟩
  | .local _ .vmem, ⟨3, _⟩ => ⟨S1x128x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x128x128, .bf16⟩
  | .local _ .vmem, ⟨9, _⟩ => ⟨S1x128x128, .bf16⟩
  | .local _ .vmem, ⟨10, _⟩ => ⟨S2x128x1, .f32⟩
  | .local _ .vmem, ⟨11, _⟩ => ⟨S2x128x1, .f32⟩
  | .local _ .vmem, ⟨12, _⟩ => ⟨S2x128x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 64], ![false, false, false]⟩

@[reducible] def k0_t1_loop (i : grid0.Coords) : Scf.Loop 32 :=
  let c0_i32_20 : BitVec 32 := 0#32
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let v40 : BitVec 32 := Scalar.subi v23 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_22 : BitVec 32 := 1#32
  ⟨c0_i32_20, v44, c1_i32_22⟩
def k0_mult1 (i : grid0.Coords) (k0_t1 : Fin (k0_t1_loop i).trips) : BitVec 32 :=
  let c0_i32_20 : BitVec 32 := 0#32
  let c1_i32_22 : BitVec 32 := 1#32
  let arg12 : BitVec 32 := Scf.iv c0_i32_20 c1_i32_22 k0_t1
  let c512_i32_50 : BitVec 32 := 512#32
  let v87 : BitVec 32 := Scalar.muli arg12 c512_i32_50
  v87
def k0_off1 (i : grid0.Coords) (k0_t1 : Fin (k0_t1_loop i).trips) : Fin 3 → Nat :=
  let c0_51 : Index := 0#32
  let c0_i32_20 : BitVec 32 := 0#32
  let c1_i32_22 : BitVec 32 := 1#32
  let arg12 : BitVec 32 := Scf.iv c0_i32_20 c1_i32_22 k0_t1
  let c512_i32_50 : BitVec 32 := 512#32
  let v87 : BitVec 32 := Scalar.muli arg12 c512_i32_50
  let v88 : BitVec 32 := v87
  let v89 : Index := Scalar.indexCast v88
  let c0_52 : Index := 0#32
  ![0, v89.toNat, 0]
@[reducible] def k0_t2_loop (i : grid0.Coords) : Scf.Loop 32 :=
  let c0_i32_20 : BitVec 32 := 0#32
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let v40 : BitVec 32 := Scalar.subi v23 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let v41 : BitVec 32 := Scalar.addi c0_i32_20 v40
  let c1_i32_23 : BitVec 32 := 1#32
  ⟨v44, v41, c1_i32_23⟩
def k0_mult2 (i : grid0.Coords) (k0_t2 : Fin (k0_t2_loop i).trips) : BitVec 32 :=
  let c0_i32_20 : BitVec 32 := 0#32
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let v40 : BitVec 32 := Scalar.subi v23 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg12 : BitVec 32 := Scf.iv v44 c1_i32_23 k0_t2
  let c512_i32_50 : BitVec 32 := 512#32
  let v87 : BitVec 32 := Scalar.muli arg12 c512_i32_50
  v87
def k0_off2 (i : grid0.Coords) (k0_t2 : Fin (k0_t2_loop i).trips) : Fin 3 → Nat :=
  let c0_51 : Index := 0#32
  let c0_i32_20 : BitVec 32 := 0#32
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let v40 : BitVec 32 := Scalar.subi v23 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg12 : BitVec 32 := Scf.iv v44 c1_i32_23 k0_t2
  let c512_i32_50 : BitVec 32 := 512#32
  let v87 : BitVec 32 := Scalar.muli arg12 c512_i32_50
  let v88 : BitVec 32 := v87
  let v89 : Index := Scalar.indexCast v88
  let c0_52 : Index := 0#32
  ![0, v89.toNat, 0]
@[reducible] def k0_t3_loop (i : grid0.Coords) : Scf.Loop 32 :=
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let c128_i32_4 : BitVec 32 := 128#32
  let v24 : BitVec 32 := Scalar.addi v15 c128_i32_4
  let c512_i32_5 : BitVec 32 := 512#32
  let v25 : BitVec 32 := Scalar.addi v24 c512_i32_5
  let c1_i32 : BitVec 32 := 1#32
  let v26 : BitVec 32 := Scalar.subi v25 c1_i32
  let c512_i32_6 : BitVec 32 := 512#32
  let v27 : BitVec 32 := Scalar.divsi v26 c512_i32_6
  let v45 : BitVec 32 := Scalar.subi v27 v23
  let c1_i32_25 : BitVec 32 := 1#32
  let v47 : BitVec 32 := Scalar.divsi v45 c1_i32_25
  let v48 : BitVec 32 := Scalar.muli v47 c1_i32_25
  let v49 : BitVec 32 := Scalar.addi v23 v48
  let c1_i32_26 : BitVec 32 := 1#32
  ⟨v23, v49, c1_i32_26⟩
def k0_mult3 (i : grid0.Coords) (k0_t3 : Fin (k0_t3_loop i).trips) : BitVec 32 :=
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let c1_i32_26 : BitVec 32 := 1#32
  let arg12 : BitVec 32 := Scf.iv v23 c1_i32_26 k0_t3
  let c512_i32_50 : BitVec 32 := 512#32
  let v87 : BitVec 32 := Scalar.muli arg12 c512_i32_50
  v87
def k0_off3 (i : grid0.Coords) (k0_t3 : Fin (k0_t3_loop i).trips) : Fin 3 → Nat :=
  let c0_51 : Index := 0#32
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let c1_i32_26 : BitVec 32 := 1#32
  let arg12 : BitVec 32 := Scf.iv v23 c1_i32_26 k0_t3
  let c512_i32_50 : BitVec 32 := 512#32
  let v87 : BitVec 32 := Scalar.muli arg12 c512_i32_50
  let v88 : BitVec 32 := v87
  let v89 : Index := Scalar.indexCast v88
  let c0_52 : Index := 0#32
  ![0, v89.toNat, 0]
@[reducible] def k0_t4_loop (i : grid0.Coords) : Scf.Loop 32 :=
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let c128_i32_4 : BitVec 32 := 128#32
  let v24 : BitVec 32 := Scalar.addi v15 c128_i32_4
  let c512_i32_5 : BitVec 32 := 512#32
  let v25 : BitVec 32 := Scalar.addi v24 c512_i32_5
  let c1_i32 : BitVec 32 := 1#32
  let v26 : BitVec 32 := Scalar.subi v25 c1_i32
  let c512_i32_6 : BitVec 32 := 512#32
  let v27 : BitVec 32 := Scalar.divsi v26 c512_i32_6
  let v45 : BitVec 32 := Scalar.subi v27 v23
  let c1_i32_25 : BitVec 32 := 1#32
  let v47 : BitVec 32 := Scalar.divsi v45 c1_i32_25
  let v48 : BitVec 32 := Scalar.muli v47 c1_i32_25
  let v49 : BitVec 32 := Scalar.addi v23 v48
  let v46 : BitVec 32 := Scalar.addi v23 v45
  let c1_i32_27 : BitVec 32 := 1#32
  ⟨v49, v46, c1_i32_27⟩
def k0_mult4 (i : grid0.Coords) (k0_t4 : Fin (k0_t4_loop i).trips) : BitVec 32 :=
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let c128_i32_4 : BitVec 32 := 128#32
  let v24 : BitVec 32 := Scalar.addi v15 c128_i32_4
  let c512_i32_5 : BitVec 32 := 512#32
  let v25 : BitVec 32 := Scalar.addi v24 c512_i32_5
  let c1_i32 : BitVec 32 := 1#32
  let v26 : BitVec 32 := Scalar.subi v25 c1_i32
  let c512_i32_6 : BitVec 32 := 512#32
  let v27 : BitVec 32 := Scalar.divsi v26 c512_i32_6
  let v45 : BitVec 32 := Scalar.subi v27 v23
  let c1_i32_25 : BitVec 32 := 1#32
  let v47 : BitVec 32 := Scalar.divsi v45 c1_i32_25
  let v48 : BitVec 32 := Scalar.muli v47 c1_i32_25
  let v49 : BitVec 32 := Scalar.addi v23 v48
  let c1_i32_27 : BitVec 32 := 1#32
  let arg12 : BitVec 32 := Scf.iv v49 c1_i32_27 k0_t4
  let c512_i32_50 : BitVec 32 := 512#32
  let v87 : BitVec 32 := Scalar.muli arg12 c512_i32_50
  v87
def k0_off4 (i : grid0.Coords) (k0_t4 : Fin (k0_t4_loop i).trips) : Fin 3 → Nat :=
  let c0_51 : Index := 0#32
  let c0_i32 : BitVec 32 := 0#32
  let arg2 : BitVec 32 := BitVec.ofNat 32 (i 2).val
  let c128_i32 : BitVec 32 := 128#32
  let v14 : BitVec 32 := Scalar.muli arg2 c128_i32
  let v15 : BitVec 32 := Scalar.addi c0_i32 v14
  let c64_i32_3 : BitVec 32 := 64#32
  let v21 : BitVec 32 := Scalar.addi v15 c64_i32_3
  let c8192_i32 : BitVec 32 := 8192#32
  let v22 : BitVec 32 := Scalar.minsi v21 c8192_i32
  let c512_i32 : BitVec 32 := 512#32
  let v23 : BitVec 32 := Scalar.divsi v22 c512_i32
  let c128_i32_4 : BitVec 32 := 128#32
  let v24 : BitVec 32 := Scalar.addi v15 c128_i32_4
  let c512_i32_5 : BitVec 32 := 512#32
  let v25 : BitVec 32 := Scalar.addi v24 c512_i32_5
  let c1_i32 : BitVec 32 := 1#32
  let v26 : BitVec 32 := Scalar.subi v25 c1_i32
  let c512_i32_6 : BitVec 32 := 512#32
  let v27 : BitVec 32 := Scalar.divsi v26 c512_i32_6
  let v45 : BitVec 32 := Scalar.subi v27 v23
  let c1_i32_25 : BitVec 32 := 1#32
  let v47 : BitVec 32 := Scalar.divsi v45 c1_i32_25
  let v48 : BitVec 32 := Scalar.muli v47 c1_i32_25
  let v49 : BitVec 32 := Scalar.addi v23 v48
  let c1_i32_27 : BitVec 32 := 1#32
  let arg12 : BitVec 32 := Scf.iv v49 c1_i32_27 k0_t4
  let c512_i32_50 : BitVec 32 := 512#32
  let v87 : BitVec 32 := Scalar.muli arg12 c512_i32_50
  let v88 : BitVec 32 := v87
  let v89 : Index := Scalar.indexCast v88
  let c0_52 : Index := 0#32
  ![0, v89.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x512 : Shape := ⟨3, ![4, 8192, 512]⟩
abbrev S64 : Shape := ⟨1, ![64]⟩
abbrev S128 : Shape := ⟨1, ![128]⟩
abbrev S4x8192x4x128 : Shape := ⟨4, ![4, 8192, 4, 128]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8192x4x64 : Shape := ⟨4, ![4, 8192, 4, 64]⟩
abbrev S4x4x8192x8192 : Shape := ⟨4, ![4, 4, 8192, 8192]⟩
abbrev S1x1x8192x8192 : Shape := ⟨4, ![1, 1, 8192, 8192]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 139
  | .vmem => 0
  | .smem => 0
  | _ => 0

abbrev hbmTy0_0 (i : Nat) : BufTy := match i % 128 with
  | 0 => ⟨S4x8192x512, .bf16⟩
  | 1 => ⟨S4x8192x512, .bf16⟩
  | 2 => ⟨S4x8192x512, .bf16⟩
  | 3 => ⟨S64, .f32⟩
  | 4 => ⟨S64, .f32⟩
  | 5 => ⟨S64, .f32⟩
  | 6 => ⟨S64, .f32⟩
  | 7 => ⟨S128, .f32⟩
  | 8 => ⟨S4x8192x512, .f32⟩
  | 9 => ⟨S4x8192x4x128, .f32⟩
  | 10 => ⟨S4x8192x512, .f32⟩
  | 11 => ⟨S4x8192x4x128, .f32⟩
  | 12 => ⟨S4x8192x512, .f32⟩
  | 13 => ⟨S4x8192x4x128, .f32⟩
  | 14 => ⟨S8192, .i32⟩
  | 15 => ⟨S_, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i1⟩
  | 23 => ⟨S8192, .i32⟩
  | 24 => ⟨S8192, .i32⟩
  | 25 => ⟨S_, .i32⟩
  | 26 => ⟨S8192, .i32⟩
  | 27 => ⟨S8192, .i1⟩
  | 28 => ⟨S8192, .i1⟩
  | 29 => ⟨S_, .i32⟩
  | 30 => ⟨S8192, .i32⟩
  | 31 => ⟨S8192, .i32⟩
  | 32 => ⟨S8192, .i32⟩
  | 33 => ⟨S1x8192, .i32⟩
  | 34 => ⟨S_, .i32⟩
  | 35 => ⟨S_, .i32⟩
  | 36 => ⟨S8192, .i32⟩
  | 37 => ⟨S8192, .i32⟩
  | 38 => ⟨S8192, .i32⟩
  | 39 => ⟨S_, .i32⟩
  | 40 => ⟨S8192, .i32⟩
  | 41 => ⟨S8192, .i1⟩
  | 42 => ⟨S8192, .i32⟩
  | 43 => ⟨S8192, .i32⟩
  | 44 => ⟨S_, .i32⟩
  | 45 => ⟨S8192, .i32⟩
  | 46 => ⟨S8192, .i1⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x8192, .i32⟩
  | 54 => ⟨S8192x8192, .i32⟩
  | 55 => ⟨S8192x8192, .i1⟩
  | 56 => ⟨S64, .f32⟩
  | 57 => ⟨S_, .f32⟩
  | 58 => ⟨S_, .f32⟩
  | 59 => ⟨S_, .f32⟩
  | 60 => ⟨S64, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S4x8192x4x64, .f32⟩
  | 68 => ⟨S4x8192x4x64, .f32⟩
  | 69 => ⟨S4x4x8192x8192, .f32⟩
  | 70 => ⟨S1x1x8192x8192, .i1⟩
  | 71 => ⟨S_, .f32⟩
  | 72 => ⟨S_, .f32⟩
  | 73 => ⟨S4x4x8192x8192, .i1⟩
  | 74 => ⟨S4x4x8192x8192, .f32⟩
  | 75 => ⟨S4x4x8192x8192, .f32⟩
  | 76 => ⟨S_, .f32⟩
  | 77 => ⟨S4x4x8192, .f32⟩
  | 78 => ⟨S_, .f32⟩
  | 79 => ⟨S4x4x8192, .f32⟩
  | 80 => ⟨S4x4x8192, .f32⟩
  | 81 => ⟨S4x4x8192x1, .f32⟩
  | 82 => ⟨S4x4x8192x8192, .f32⟩
  | 83 => ⟨S4x4x8192x8192, .f32⟩
  | 84 => ⟨S4x4x8192x8192, .f32⟩
  | 85 => ⟨S_, .f32⟩
  | 86 => ⟨S4x4x8192, .f32⟩
  | 87 => ⟨S4x4x8192x1, .f32⟩
  | 88 => ⟨S4x4x8192x8192, .f32⟩
  | 89 => ⟨S4x4x8192x8192, .f32⟩
  | 90 => ⟨S4x8192x4x64, .f32⟩
  | 91 => ⟨S4x8192x4x64, .f32⟩
  | 92 => ⟨S4x4x8192x8192, .f32⟩
  | 93 => ⟨S1x1x8192x8192, .i1⟩
  | 94 => ⟨S_, .f32⟩
  | 95 => ⟨S_, .f32⟩
  | 96 => ⟨S4x4x8192x8192, .i1⟩
  | 97 => ⟨S4x4x8192x8192, .f32⟩
  | 98 => ⟨S4x4x8192x8192, .f32⟩
  | 99 => ⟨S_, .f32⟩
  | 100 => ⟨S4x4x8192, .f32⟩
  | 101 => ⟨S_, .f32⟩
  | 102 => ⟨S4x4x8192, .f32⟩
  | 103 => ⟨S4x4x8192, .f32⟩
  | 104 => ⟨S4x4x8192x1, .f32⟩
  | 105 => ⟨S4x4x8192x8192, .f32⟩
  | 106 => ⟨S4x4x8192x8192, .f32⟩
  | 107 => ⟨S4x4x8192x8192, .f32⟩
  | 108 => ⟨S_, .f32⟩
  | 109 => ⟨S4x4x8192, .f32⟩
  | 110 => ⟨S4x4x8192x1, .f32⟩
  | 111 => ⟨S4x4x8192x8192, .f32⟩
  | 112 => ⟨S4x4x8192x8192, .f32⟩
  | 113 => ⟨S4x4x8192x8192, .f32⟩
  | 114 => ⟨S4x4x8192x8192, .f32⟩
  | 115 => ⟨S4x4x8192x8192, .f32⟩
  | 116 => ⟨S4x4x128x8192, .f32⟩
  | 117 => ⟨S4x8192x4x128, .f32⟩
  | 118 => ⟨S4x8192x4x128, .f32⟩
  | 119 => ⟨S_, .f32⟩
  | 120 => ⟨S4x8192x4, .f32⟩
  | 121 => ⟨S4x8192x4x1, .f32⟩
  | 122 => ⟨S_, .f32⟩
  | 123 => ⟨S4x8192x4x1, .f32⟩
  | 124 => ⟨S4x8192x4x1, .f32⟩
  | 125 => ⟨S_, .f32⟩
  | 126 => ⟨S4x8192x4x1, .f32⟩
  | 127 => ⟨S4x8192x4x1, .f32⟩
  | _ => ⟨S4x8192x512, .bf16⟩

abbrev hbmTy0_1 (i : Nat) : BufTy := match i % 128 with
  | 0 => ⟨S4x8192x4x1, .f32⟩
  | 1 => ⟨S4x8192x4x128, .f32⟩
  | 2 => ⟨S4x8192x4x128, .f32⟩
  | 3 => ⟨S1x1x1x128, .f32⟩
  | 4 => ⟨S4x8192x4x128, .f32⟩
  | 5 => ⟨S4x8192x4x128, .f32⟩
  | 6 => ⟨S_, .f32⟩
  | 7 => ⟨S4x8192x4x128, .f32⟩
  | 8 => ⟨S4x8192x4x128, .f32⟩
  | 9 => ⟨S4x8192x512, .f32⟩
  | 10 => ⟨S4x8192x512, .bf16⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_v8 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_1 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_3 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_cst_5 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_7 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v42 : Ref sig .tc := ⟨.hbm, 98, rfl⟩
abbrev main_cst_8 : Ref sig .tc := ⟨.hbm, 99, rfl⟩
abbrev main_v43 : Ref sig .tc := ⟨.hbm, 100, rfl⟩
abbrev main_cst_9 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_cst_10 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_11 : Ref sig .tc := ⟨.hbm, 119, rfl⟩
abbrev main_v60 : Ref sig .tc := ⟨.hbm, 120, rfl⟩
abbrev main_v61 : Ref sig .tc := ⟨.hbm, 121, rfl⟩
abbrev main_cst_12 : Ref sig .tc := ⟨.hbm, 122, rfl⟩
abbrev main_v62 : Ref sig .tc := ⟨.hbm, 123, rfl⟩
abbrev main_v63 : Ref sig .tc := ⟨.hbm, 124, rfl⟩
abbrev main_cst_13 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_14 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x3140 : Shape := ⟨2, ![1024, 3140]⟩
abbrev S1024x64 : Shape := ⟨2, ![1024, 64]⟩
abbrev S1024x2628 : Shape := ⟨2, ![1024, 2628]⟩
abbrev S_ : Shape := ⟨0, ![]⟩
abbrev S1024x60 : Shape := ⟨2, ![1024, 60]⟩
abbrev S1024x512 : Shape := ⟨2, ![1024, 512]⟩
abbrev S1024x3328 : Shape := ⟨2, ![1024, 3328]⟩
abbrev S32768x1024 : Shape := ⟨2, ![32768, 1024]⟩
abbrev S1x1024 : Shape := ⟨2, ![1, 1024]⟩
abbrev S32768x512 : Shape := ⟨2, ![32768, 512]⟩
abbrev S32768x256 : Shape := ⟨2, ![32768, 256]⟩
abbrev S32768x128 : Shape := ⟨2, ![32768, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x3328 : Shape := ⟨2, ![512, 3328]⟩

abbrev nBuf : Space → Nat
  | .hbm => 27
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3140, .f32⟩
  | .hbm, ⟨3, _⟩ => ⟨S1024x64, .f32⟩
  | .hbm, ⟨4, _⟩ => ⟨S1024x2628, .f32⟩
  | .hbm, ⟨5, _⟩ => ⟨S_, .f32⟩
  | .hbm, ⟨6, _⟩ => ⟨S1024x60, .f32⟩
  | .hbm, ⟨7, _⟩ => ⟨S1024x512, .f32⟩
  | .hbm, ⟨8, _⟩ => ⟨S1024x3328, .f32⟩
  | .hbm, ⟨9, _⟩ => ⟨S1024x3328, .bf16⟩
  | .hbm, ⟨10, _⟩ => ⟨S32768x1024, .f32⟩
  | .hbm, ⟨11, _⟩ => ⟨S1x1024, .f32⟩
  | .hbm, ⟨12, _⟩ => ⟨S32768x512, .bf16⟩
  | .hbm, ⟨13, _⟩ => ⟨S32768x256, .bf16⟩
  | .hbm, ⟨14, _⟩ => ⟨S32768x256, .bf16⟩
  | .hbm, ⟨15, _⟩ => ⟨S32768x512, .f32⟩
  | .hbm, ⟨16, _⟩ => ⟨S32768x512, .f32⟩
  | .hbm, ⟨17, _⟩ => ⟨S32768x256, .f32⟩
  | .hbm, ⟨18, _⟩ => ⟨S32768x256, .f32⟩
  | .hbm, ⟨19, _⟩ => ⟨S32768x128, .f32⟩
  | .hbm, ⟨20, _⟩ => ⟨S32768x256, .f32⟩
  | .hbm, ⟨21, _⟩ => ⟨S32768x256, .f32⟩
  | .hbm, ⟨22, _⟩ => ⟨S32768x512, .bf16⟩
  | .hbm, ⟨23, _⟩ => ⟨S32768x512, .bf16⟩
  | .hbm, ⟨24, _⟩ => ⟨S32768x256, .bf16⟩
  | .hbm, ⟨25, _⟩ => ⟨S32768x256, .bf16⟩
  | .hbm, ⟨26, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x128, .bf16⟩
  | .local _ .vmem, ⟨33, _⟩ => ⟨S512x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v8_4 : Ref sig .tc := ⟨.hbm, 16, rfl⟩
abbrev main_v8_5 : Ref sig .tc := ⟨.hbm, 17, rfl⟩
abbrev main_v8_6 : Ref sig .tc := ⟨.hbm, 18, rfl⟩
abbrev main_v8_7 : Ref sig .tc := ⟨.hbm, 19, rfl⟩
abbrev main_v8_8 : Ref sig .tc := ⟨.hbm, 20, rfl⟩
abbrev main_v8_9 : Ref sig .tc := ⟨.hbm, 21, rfl⟩
abbrev main_v8_10 : Ref sig .tc := ⟨.hbm, 22, rfl⟩
abbrev main_v8_11 : Ref sig .tc := ⟨.hbm, 23, rfl⟩
abbrev main_v8_12 : Ref sig .tc := ⟨.hbm, 24, rfl⟩
abbrev main_v8_13 : Ref sig .tc := ⟨.hbm, 25, rfl⟩
abbrev main_v8_14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S4x8192x1024 : Shape := ⟨3, ![4, 8192, 1024]⟩
abbrev S1024 : Shape := ⟨1, ![1024]⟩
abbrev S1024x3140 : Shape := ⟨2, ![1024, 3140]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3140 : Shape := ⟨2, ![32768, 3140]⟩
abbrev S32768x512 : Shape := ⟨2, ![32768, 512]⟩
abbrev S32768x256 : Shape := ⟨2, ![32768, 256]⟩
abbrev S32768x64 : Shape := ⟨2, ![32768, 64]⟩
abbrev S32768x4 : Shape := ⟨2, ![32768, 4]⟩
abbrev S32768x60 : Shape := ⟨2, ![32768, 60]⟩
abbrev S32768x128 : Shape := ⟨2, ![32768, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3140, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x3140, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x64, .f32⟩
  | .hbm, ⟨29, _⟩ => ⟨S32768x4, .f32⟩
  | .hbm, ⟨30, _⟩ => ⟨S32768x256, .f32⟩
  | .hbm, ⟨31, _⟩ => ⟨S32768x256, .f32⟩
  | .hbm, ⟨32, _⟩ => ⟨S_, .f32⟩
  | .hbm, ⟨33, _⟩ => ⟨S32768x60, .f32⟩
  | .hbm, ⟨34, _⟩ => ⟨S32768x128, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S32768x512, .bf16⟩
  | .hbm, ⟨39, _⟩ => ⟨S_, .f32⟩
  | .hbm, ⟨40, _⟩ => ⟨S32768x256, .f32⟩
  | .hbm, ⟨41, _⟩ => ⟨S32768x256, .f32⟩
  | .hbm, ⟨42, _⟩ => ⟨S32768x256, .bf16⟩
  | .hbm, ⟨43, _⟩ => ⟨S32768x256, .bf16⟩
  | .hbm, ⟨44, _⟩ => ⟨S32768x512, .bf16⟩
  | .hbm, ⟨45, _⟩ => ⟨S32768x512, .bf16⟩
  | .hbm, ⟨46, _⟩ => ⟨S32768x256, .bf16⟩
  | .hbm, ⟨47, _⟩ => ⟨S32768x256, .bf16⟩
  | .hbm, ⟨48, _⟩ => ⟨S32768x128, .f32⟩
  | .hbm, ⟨49, _⟩ => ⟨S32768x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S32768x256 : Shape := ⟨2, ![32768, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x256, .bf16⟩
  | .hbm, ⟨3, _⟩ => ⟨S4x8192x256, .bf16⟩
  | .hbm, ⟨4, _⟩ => ⟨S1024x1024, .f32⟩
  | .hbm, ⟨5, _⟩ => ⟨S1024, .f32⟩
  | .hbm, ⟨6, _⟩ => ⟨S32768x1024, .f32⟩
  | .hbm, ⟨7, _⟩ => ⟨S32768x512, .bf16⟩
  | .hbm, ⟨8, _⟩ => ⟨S32768x256, .bf16⟩
  | .hbm, ⟨9, _⟩ => ⟨S32768x256, .bf16⟩
  | .hbm, ⟨10, _⟩ => ⟨S1024x1024, .bf16⟩
  | .hbm, ⟨11, _⟩ => ⟨S1x1024, .f32⟩
  | .hbm, ⟨12, _⟩ => ⟨S32768x1024, .f32⟩
  | .hbm, ⟨13, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x256, .bf16⟩
  | .hbm, ⟨3, _⟩ => ⟨S4x8192x256, .bf16⟩
  | .hbm, ⟨4, _⟩ => ⟨S1024x1024, .f32⟩
  | .hbm, ⟨5, _⟩ => ⟨S1024, .f32⟩
  | .hbm, ⟨6, _⟩ => ⟨S4x8192x512, .f32⟩
  | .hbm, ⟨7, _⟩ => ⟨S4x8192x256, .f32⟩
  | .hbm, ⟨8, _⟩ => ⟨S4x8192x256, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S4x2x6144 : Shape := ⟨3, ![4, 2, 6144]⟩
abbrev S1024 : Shape := ⟨1, ![1024]⟩
abbrev S1x6144 : Shape := ⟨2, ![1, 6144]⟩
abbrev S1x1024 : Shape := ⟨2, ![1, 1024]⟩
abbrev S4x2x3072 : Shape := ⟨3, ![4, 2, 3072]⟩
abbrev S1x1024x1024 : Shape := ⟨3, ![1, 1024, 1024]⟩
abbrev S1024x512 : Shape := ⟨2, ![1024, 512]⟩
abbrev S3x512 : Shape := ⟨2, ![3, 512]⟩
abbrev S1x512 : Shape := ⟨2, ![1, 512]⟩
abbrev S512x1024 : Shape := ⟨2, ![512, 1024]⟩
abbrev S1x2x512 : Shape := ⟨3, ![1, 2, 512]⟩
abbrev S1024x1024 : Shape := ⟨2, ![1024, 1024]⟩
abbrev S6x8x512 : Shape := ⟨3, ![6, 8, 512]⟩
abbrev S8x512 : Shape := ⟨2, ![8, 512]⟩
abbrev S1x8x512 : Shape := ⟨3, ![1, 8, 512]⟩
abbrev S2x512 : Shape := ⟨2, ![2, 512]⟩
abbrev S8x1 : Shape := ⟨2, ![8, 1]⟩
abbrev S1016x512 : Shape := ⟨2, ![1016, 512]⟩
abbrev S1024x1 : Shape := ⟨2, ![1024, 1]⟩

abbrev nBuf : Space → Nat
  | .hbm => 15
  | .vmem => 32
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S1024x6144, .f32⟩
  | .hbm, ⟨3, _⟩ => ⟨S3x6144, .f32⟩
  | .hbm, ⟨4, _⟩ => ⟨S6144, .f32⟩
  | .hbm, ⟨5, _⟩ => ⟨S3072x1024, .f32⟩
  | .hbm, ⟨6, _⟩ => ⟨S4x2x6144, .f32⟩
  | .hbm, ⟨7, _⟩ => ⟨S1024, .f32⟩
  | .hbm, ⟨8, _⟩ => ⟨S1024x6144, .bf16⟩
  | .hbm, ⟨9, _⟩ => ⟨S3072x1024, .bf16⟩
  | .hbm, ⟨10, _⟩ => ⟨S1x6144, .f32⟩
  | .hbm, ⟨11, _⟩ => ⟨S1x1024, .f32⟩
  | .hbm, ⟨12, _⟩ => ⟨S4x8192x1024, .f32⟩
  | .hbm, ⟨13, _⟩ => ⟨S4x2x3072, .f32⟩
  | .hbm, ⟨14, _⟩ => ⟨S4x2x3072, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x1024, .bf16⟩
  | .local _ .vmem, ⟨17, _⟩ => ⟨S512x1024, .bf16⟩
  | .local _ .vmem, ⟨18, _⟩ => ⟨S1x2x512, .f32⟩
  | .local _ .vmem, ⟨19, _⟩ => ⟨S1x2x512, .f32⟩
  | .local _ .vmem, ⟨20, _⟩ => ⟨S1x2x512, .f32⟩
  | .local _ .vmem, ⟨21, _⟩ => ⟨S1x2x512, .f32⟩
  | .local _ .vmem, ⟨22, _⟩ => ⟨S1x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1x2x512, .f32⟩
  | .local _ .vmem, ⟨26, _⟩ => ⟨S1x2x512, .f32⟩
  | .local _ .vmem, ⟨27, _⟩ => ⟨S1x2x512, .f32⟩
  | .local _ .vmem, ⟨28, _⟩ => ⟨S1x2x512, .f32⟩
  | .local _ .vmem, ⟨29, _⟩ => ⟨S1024x1024, .f32⟩
  | .local _ .vmem, ⟨30, _⟩ => ⟨S6x8x512, .f32⟩
  | .local _ .vmem, ⟨31, _⟩ => ⟨S6x8x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨3, ![4, 8, 6], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_off1 (i : grid0.Coords) : Fin 3 → Nat :=
  let arg2 : BitVec 32 := BitVec.ofNat 32 (i 2).val
  let v131 : Index := Scalar.indexCast arg2
  let c0_51 : Index := 0#32
  let c0_52 : Index := 0#32
  ![v131.toNat, 0, 0]
def k0_off2 (i : grid0.Coords) : Fin 3 → Nat :=
  let arg2 : BitVec 32 := BitVec.ofNat 32 (i 2).val
  let v137 : Index := Scalar.indexCast arg2
  let c6 : Index := 6#32
  let c0_56 : Index := 0#32
  ![v137.toNat, 6, 0]
def k0_off3 (i : grid0.Coords) : Fin 3 → Nat :=
  let arg2 : BitVec 32 := BitVec.ofNat 32 (i 2).val
  let v8 : Index := Scalar.indexCast arg2
  let c0_5 : Index := 0#32
  let c0_6 : Index := 0#32
  ![v8.toNat, 0, 0]
def k0_cond2 (i : grid0.Coords) : BitVec 1 :=
  let arg1 : BitVec 32 := BitVec.ofNat 32 (i 1).val
  let c0_i32_23 : BitVec 32 := 0#32
  let v61 : BitVec 1 := Scalar.cmpi .eq arg1 c0_i32_23
  let v62 : BitVec 32 := Scalar.extui v61
  let c0_i32_24 : BitVec 32 := 0#32
  let v63 : BitVec 1 := Scalar.cmpi .ne v62 c0_i32_24
  v63

def k0_off4 (i : grid0.Coords) : Fin 3 → Nat :=
  let arg2 : BitVec 32 := BitVec.ofNat 32 (i 2).val
  let v131 : Index := Scalar.indexCast arg2
  let c0_51 : Index := 0#32
  let c0_52 : Index := 0#32
  ![v131.toNat, 0, 0]
def k0_off5 (i : grid0.Coords) : Fin 3 → Nat :=
  let arg2 : BitVec 32 := BitVec.ofNat 32 (i 2).val
  let v137 : Index := Scalar.indexCast arg2
  let c6 : Index := 6#32
  let c0_56 : Index := 0#32
  ![v137.toNat, 6, 0]
def k0_cond5 (i : grid0.Coords) : BitVec 1 :=
  let arg2 : BitVec 32 := BitVec.ofNat 32 (i 2).val
  let c5_i32 : BitVec 32 := 5#32
  let v127 : BitVec 1 := Scalar.cmpi .eq arg2 c5_i32
  let v128 : BitVec 32 := Scalar.extui v127
  let c0_i32_49 : BitVec 32 := 0#32
  let v129 : BitVec 1 := Scalar.cmpi .ne v128 c0_i32_49
  v129

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![arg0.toNat, c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S1x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]
-- ==== Reference4Ideal.lean ====
abbrev S4x8192x1024 : Shape := ⟨3, ![4, 8192, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S4x2x6144 : Shape := ⟨3, ![4, 2, 6144]⟩
abbrev S1024 : Shape := ⟨1, ![1024]⟩
abbrev S4x8192x6144 : Shape := ⟨3, ![4, 8192, 6144]⟩
abbrev S4x8194x6144 : Shape := ⟨3, ![4, 8194, 6144]⟩
abbrev S1x6144 : Shape := ⟨2, ![1, 6144]⟩
abbrev S1x1x6144 : Shape := ⟨3, ![1, 1, 6144]⟩
abbrev S_ : Shape := ⟨0, ![]⟩
abbrev S4x8192x3072 : Shape := ⟨3, ![4, 8192, 3072]⟩
abbrev S4x2x3072 : Shape := ⟨3, ![4, 2, 3072]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S1024x6144, .f32⟩
  | .hbm, ⟨3, _⟩ => ⟨S3x6144, .f32⟩
  | .hbm, ⟨4, _⟩ => ⟨S6144, .f32⟩
  | .hbm, ⟨5, _⟩ => ⟨S3072x1024, .f32⟩
  | .hbm, ⟨6, _⟩ => ⟨S4x2x6144, .f32⟩
  | .hbm, ⟨7, _⟩ => ⟨S1024, .f32⟩
  | .hbm, ⟨8, _⟩ => ⟨S4x8192x1024, .f32⟩
  | .hbm, ⟨9, _⟩ => ⟨S4x8192x6144, .f32⟩
  | .hbm, ⟨10, _⟩ => ⟨S4x8194x6144, .f32⟩
  | .hbm, ⟨11, _⟩ => ⟨S4x8192x6144, .f32⟩
  | .hbm, ⟨12, _⟩ => ⟨S1x6144, .f32⟩
  | .hbm, ⟨13, _⟩ => ⟨S6144, .f32⟩
  | .hbm, ⟨14, _⟩ => ⟨S1x1x6144, .f32⟩
  | .hbm, ⟨15, _⟩ => ⟨S4x8192x6144, .f32⟩
  | .hbm, ⟨16, _⟩ => ⟨S4x8192x6144, .f32⟩
  | .hbm, ⟨17, _⟩ => ⟨S_, .f32⟩
  | .hbm, ⟨18, _⟩ => ⟨S4x8192x6144, .f32⟩
  | .hbm, ⟨19, _⟩ => ⟨S4x8192x6144, .f32⟩
  | .hbm, ⟨20, _⟩ => ⟨S4x8192x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S4x8192x6144, .f32⟩
  | .hbm, ⟨25, _⟩ => ⟨S4x8192x6144, .f32⟩
  | .hbm, ⟨26, _⟩ => ⟨S4x8192x6144, .f32⟩
  | .hbm, ⟨27, _⟩ => ⟨S4x8192x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S4x8192x6144, .f32⟩
  | .hbm, ⟨32, _⟩ => ⟨S4x8192x6144, .f32⟩
  | .hbm, ⟨33, _⟩ => ⟨S4x8192x6144, .f32⟩
  | .hbm, ⟨34, _⟩ => ⟨S1x1x6144, .f32⟩
  | .hbm, ⟨35, _⟩ => ⟨S4x8192x6144, .f32⟩
  | .hbm, ⟨36, _⟩ => ⟨S4x8192x6144, .f32⟩
  | .hbm, ⟨37, _⟩ => ⟨S4x8192x3072, .f32⟩
  | .hbm, ⟨38, _⟩ => ⟨S4x8192x3072, .f32⟩
  | .hbm, ⟨39, _⟩ => ⟨S4x8192x3072, .f32⟩
  | .hbm, ⟨40, _⟩ => ⟨S4x8192x3072, .f32⟩
  | .hbm, ⟨41, _⟩ => ⟨S_, .f32⟩
  | .hbm, ⟨42, _⟩ => ⟨S4x8192x3072, .f32⟩
  | .hbm, ⟨43, _⟩ => ⟨S4x8192x3072, .f32⟩
  | .hbm, ⟨44, _⟩ => ⟨S_, .f32⟩
  | .hbm, ⟨45, _⟩ => ⟨S4x8192x3072, .f32⟩
  | .hbm, ⟨46, _⟩ => ⟨S4x8192x3072, .f32⟩
  | .hbm, ⟨47, _⟩ => ⟨S4x8192x3072, .f32⟩
  | .hbm, ⟨48, _⟩ => ⟨S4x8192x3072, .f32⟩
  | .hbm, ⟨49, _⟩ => ⟨S4x8192x1024, .f32⟩
  | .hbm, ⟨50, _⟩ => ⟨S4x2x6144, .f32⟩
  | .hbm, ⟨51, _⟩ => ⟨S4x2x3072, .f32⟩
  | .hbm, ⟨52, _⟩ => ⟨S4x2x3072, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S4x8192x1, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_0 : Ref sig .tc := ⟨.hbm, 55, rfl⟩
abbrev main_v38 : Ref sig .tc := ⟨.hbm, 56, rfl⟩
abbrev main_v39 : Ref sig .tc := ⟨.hbm, 57, rfl⟩
abbrev main_cst_1 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.Online.lean ====
/-
  THE ONLINE SOFTMAX over the extended reals, for one row of scores. A row of scores is a function `S : ℕ → EReal` of
  the key's position; a key outside the mask has the score `⊥`. After the first `n` keys the kernel holds
  * `top S n`      the maximum of their scores (`⊥` before the first key),
  * `mass S n`     the sum of `exp (S k - top S n)`,
  * `mixed S v n`  the sum of `exp (S k - top S n) * v k`.
  This file shows that one step over the next `c` keys takes the three values for `n` keys to those for `n + c` keys
  (no finiteness is needed for that), that keys whose score is `⊥` change none of them, and that with finite scores
  and values the two quotients, mixed with a factor, are the sum over the keys of the mixed probabilities times the values.
-/
module

public import Idealize.ShloMosaic.PureOps.Ideal
public import Mathlib.Data.EReal.Inv

@[expose] public section

noncomputable section

open Idealize.ShloMosaic Finset

namespace Cert.Online

/-- The maximum of the first `n` scores. -/
def top (S : ℕ → EReal) (n : ℕ) : EReal := (range n).sup S

/-- The weight of key `k` against the maximum `m`. -/
def weight (S : ℕ → EReal) (m : EReal) (k : ℕ) : EReal := Ideal.exp (S k - m)

/-- The sum of the first `n` weights. -/
def mass (S : ℕ → EReal) (n : ℕ) : EReal := ∑ k ∈ range n, weight S (top S n) k

/-- The sum of the first `n` values, each times its weight. -/
def mixed (S v : ℕ → EReal) (n : ℕ) : EReal := ∑ k ∈ range n, weight S (top S n) k * v k

theorem exp_nonneg (x : EReal) : 0 ≤ Ideal.exp x := by
  induction x with
  | bot => exact le_refl _
  | top => exact le_top
  | coe r => exact EReal.coe_nonneg.mpr (Real.exp_pos r).le

theorem exp_bot : Ideal.exp ⊥ = 0 := rfl

theorem exp_coe (r : ℝ) : Ideal.exp (r : EReal) = (Real.exp r : EReal) := rfl

/-- The rescaling factor is finite, since the maximum only grows. -/
theorem exp_sub_ne_top {a b : EReal} (h : a ≤ b) : Ideal.exp (a - b) ≠ ⊤ := by
  induction b with
  | bot =>
    obtain rfl : a = ⊥ := le_bot_iff.mp h
    rw [EReal.bot_sub, exp_bot]; exact EReal.zero_ne_top
  | top => rw [EReal.sub_top, exp_bot]; exact EReal.zero_ne_top
  | coe b =>
    induction a with
    | bot => rw [EReal.bot_sub, exp_bot]; exact EReal.zero_ne_top
    | top => exact absurd (top_le_iff.mp h) (EReal.coe_ne_top b)
    | coe a => rw [← EReal.coe_sub, exp_coe]; exact EReal.coe_ne_top _

/-- Rescaling a weight from the maximum `a` to the larger maximum `b` gives the weight against `b`. -/
theorem exp_rescale {s a b : EReal} (hs : s ≤ a) (h : a ≤ b) :
    Ideal.exp (a - b) * Ideal.exp (s - a) = Ideal.exp (s - b) := by
  induction b with
  | bot =>
    obtain rfl : a = ⊥ := le_bot_iff.mp h
    obtain rfl : s = ⊥ := le_bot_iff.mp hs
    simp only [EReal.bot_sub, exp_bot, mul_zero]
  | top => simp only [EReal.sub_top, exp_bot, zero_mul]
  | coe b =>
    induction a with
    | bot =>
      obtain rfl : s = ⊥ := le_bot_iff.mp hs
      simp only [EReal.bot_sub, exp_bot, mul_zero]
    | top => exact absurd (top_le_iff.mp h) (EReal.coe_ne_top b)
    | coe a =>
      induction s with
      | bot => simp only [EReal.bot_sub, exp_bot, mul_zero]
      | top => exact absurd (top_le_iff.mp hs) (EReal.coe_ne_top a)
      | coe s =>
        simp only [← EReal.coe_sub, exp_coe, ← EReal.coe_mul, ← Real.exp_add]
        congr 2; ring

/-- A finite factor that is not negative goes into a sum of any extended reals. -/
theorem mul_sum_of_nonneg {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [sum_insert ha, sum_insert ha, EReal.left_distrib_of_nonneg_of_ne_top h0 ht, ih]

theorem le_top_of_lt {S : ℕ → EReal} {n k : ℕ} (h : k < n) : S k ≤ top S n := le_sup (mem_range.mpr h)

theorem top_mono (S : ℕ → EReal) {n n' : ℕ} (h : n ≤ n') : top S n ≤ top S n' :=
  sup_mono (range_subset_range.mpr h)

/-- The maximum after `c` more keys, as the step computes it. -/
theorem top_step (S : ℕ → EReal) (n c : ℕ) :
    max (top S n) (univ.fold max ⊥ fun j : Fin c => S (n + j)) = top S (n + c) := by
  show top S n ⊔ univ.sup (fun j : Fin c => S (n + j)) = top S (n + c)
  apply le_antisymm
  · exact sup_le (top_mono S (Nat.le_add_right n c)) (Finset.sup_le fun j _ => le_top_of_lt (by omega))
  · refine Finset.sup_le fun k hk => ?_
    have hk' := mem_range.mp hk
    by_cases h : k < n
    · exact le_sup_of_le_left (le_top_of_lt h)
    · refine le_sup_of_le_right ?_
      have := le_sup (f := fun j : Fin c => S (n + j)) (mem_univ (⟨k - n, by omega⟩ : Fin c))
      simpa only [Nat.add_sub_cancel' (not_lt.mp h)] using this

/-- The sum of the weights after `c` more keys, as the step computes it. -/
theorem mass_step (S : ℕ → EReal) (n c : ℕ) :
    Ideal.exp (top S n - top S (n + c)) * mass S n + ∑ j : Fin c, Ideal.exp (S (n + j) - top S (n + c)) = mass S (n + c) := by
  have hm := top_mono S (Nat.le_add_right n c)
  unfold mass
  rw [sum_range_add, mul_sum_of_nonneg _ _ (exp_nonneg _) (exp_sub_ne_top hm)]
  congr 1
  · exact sum_congr rfl fun k hk => exp_rescale (le_top_of_lt (mem_range.mp hk)) hm
  · exact (Fin.sum_univ_eq_sum_range (fun j => weight S (top S (n + c)) (n + j)) c)

/-- The weighted sum of the values after `c` more keys, as the step computes it. -/
theorem mixed_step (S v : ℕ → EReal) (n c : ℕ) :
    Ideal.exp (top S n - top S (n + c)) * mixed S v n + ∑ j : Fin c, Ideal.exp (S (n + j) - top S (n + c)) * v (n + j)
      = mixed S v (n + c) := by
  have hm := top_mono S (Nat.le_add_right n c)
  unfold mixed
  rw [sum_range_add, mul_sum_of_nonneg _ _ (exp_nonneg _) (exp_sub_ne_top hm)]
  congr 1
  · refine sum_congr rfl fun k hk => ?_
    unfold weight
    rw [← mul_assoc, exp_rescale (le_top_of_lt (mem_range.mp hk)) hm]
  · exact (Fin.sum_univ_eq_sum_range (fun j => weight S (top S (n + c)) (n + j) * v (n + j)) c)

/-! ## Keys outside the mask -/

theorem top_extend {S : ℕ → EReal} {n n' : ℕ} (h : n ≤ n') (hS : ∀ k, n ≤ k → k < n' → S k = ⊥) : top S n = top S n' := by
  refine le_antisymm (top_mono S h) (Finset.sup_le fun k hk => ?_)
  by_cases hkn : k < n
  · exact le_top_of_lt hkn
  · rw [hS k (not_lt.mp hkn) (mem_range.mp hk)]; exact bot_le

theorem mass_extend {S : ℕ → EReal} {n n' : ℕ} (h : n ≤ n') (hS : ∀ k, n ≤ k → k < n' → S k = ⊥) : mass S n = mass S n' := by
  unfold mass
  rw [← top_extend h hS]
  refine sum_subset (range_subset_range.mpr h) fun k hk hkn => ?_
  unfold weight
  rw [hS k (not_lt.mp fun h' => hkn (mem_range.mpr h')) (mem_range.mp hk), EReal.bot_sub, exp_bot]

theorem mixed_extend {S : ℕ → EReal} (v : ℕ → EReal) {n n' : ℕ} (h : n ≤ n') (hS : ∀ k, n ≤ k → k < n' → S k = ⊥) :
    mixed S v n = mixed S v n' := by
  unfold mixed
  rw [← top_extend h hS]
  refine sum_subset (range_subset_range.mpr h) fun k hk hkn => ?_
  unfold weight
  rw [hS k (not_lt.mp fun h' => hkn (mem_range.mpr h')) (mem_range.mp hk), EReal.bot_sub, exp_bot, zero_mul]

/-! ## Finite scores -/

/-- With a finite score among the first `n` and none of them `⊤`, the maximum is finite. -/
theorem exists_top {S : ℕ → EReal} {n k : ℕ} (hk : k < n) (h : S k ≠ ⊥) (hS : ∀ j, j < n → S j ≠ ⊤) :
    ∃ m : ℝ, top S n = m := by
  have hb : top S n ≠ ⊥ := fun e => h (le_bot_iff.mp (e ▸ le_top_of_lt hk))
  have ht : top S n ≠ ⊤ := by
    have : top S n < ⊤ := (Finset.sup_lt_iff (bot_lt_top)).mpr fun j hj => lt_top_iff_ne_top.mpr (hS j (mem_range.mp hj))
    exact this.ne
  exact ⟨(top S n).toReal, (EReal.coe_toReal ht hb).symm⟩

/-- With a finite score among the first `n` and none of them `⊤`, the weights are finite, not negative, and their sum is positive. -/
theorem exists_weights {S : ℕ → EReal} {n k : ℕ} (hk : k < n) (h : S k ≠ ⊥) (hS : ∀ j, j < n → S j ≠ ⊤) :
    ∃ w : ℕ → ℝ, (∀ j, j < n → weight S (top S n) j = (w j : EReal)) ∧ 0 < ∑ j ∈ range n, w j := by
  obtain ⟨m, hm⟩ := exists_top hk h hS
  have hw : ∀ j, j < n → ∃ r : ℝ, weight S (top S n) j = (r : EReal) ∧ 0 ≤ r ∧ (S j ≠ ⊥ → 0 < r) := by
    intro j hj
    unfold weight
    rw [hm]
    rcases eq_or_ne (S j) ⊥ with hb | hb
    · exact ⟨0, by rw [hb, EReal.bot_sub, exp_bot]; rfl, le_refl _, fun h' => absurd hb h'⟩
    · have e := (EReal.coe_toReal (hS j hj) hb).symm
      exact ⟨Real.exp ((S j).toReal - m), by rw [e, ← EReal.coe_sub, exp_coe, EReal.toReal_coe], (Real.exp_pos _).le, fun _ => Real.exp_pos _⟩
  choose! w hw1 hw2 hw3 using hw
  exact ⟨w, hw1, sum_pos' (fun j hj => hw2 j (mem_range.mp hj)) ⟨k, mem_range.mpr hk, hw3 k hk h⟩⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The two attentions of a row, each value mixed after the division, are the sum over the keys of the values times the
    mixed probabilities: with two rows of scores that each have a finite score and none `⊤`, finite values and a finite factor. -/
theorem mixed_eq {S T v : ℕ → EReal} {lam : EReal} {n i j : ℕ} (hi : i < n) (hSi : S i ≠ ⊥) (hS : ∀ k, k < n → S k ≠ ⊤)
    (hj : j < n) (hTj : T j ≠ ⊥) (hT : ∀ k, k < n → T k ≠ ⊤) (hv : ∀ k, k < n → ∃ r : ℝ, v k = r) (hl : ∃ r : ℝ, lam = r) :
    Ideal.div (mixed S v n) (mass S n) - lam * Ideal.div (mixed T v n) (mass T n)
      = ∑ k ∈ range n, v k * (Ideal.div (weight S (top S n) k) (mass S n) - lam * Ideal.div (weight T (top T n) k) (mass T n)) := by
  obtain ⟨l, rfl⟩ := hl
  obtain ⟨w, hw, hw0⟩ := exists_weights hi hSi hS
  obtain ⟨u, hu, hu0⟩ := exists_weights hj hTj hT
  choose! x hx using hv
  have ms : mass S n = ((∑ k ∈ range n, w k : ℝ) : EReal) := by
    rw [coe_sum]; exact sum_congr rfl fun k hk => hw k (mem_range.mp hk)
  have mt : mass T n = ((∑ k ∈ range n, u k : ℝ) : EReal) := by
    rw [coe_sum]; exact sum_congr rfl fun k hk => hu k (mem_range.mp hk)
  have as : mixed S v n = ((∑ k ∈ range n, w k * x k : ℝ) : EReal) := by
    rw [coe_sum]; exact sum_congr rfl fun k hk => by rw [hw k (mem_range.mp hk), hx k (mem_range.mp hk), EReal.coe_mul]
  have at' : mixed T v n = ((∑ k ∈ range n, u k * x k : ℝ) : EReal) := by
    rw [coe_sum]; exact sum_congr rfl fun k hk => by rw [hu k (mem_range.mp hk), hx k (mem_range.mp hk), EReal.coe_mul]
  rw [ms, mt, as, at', div_coe _ hw0.ne', div_coe _ hu0.ne', ← EReal.coe_mul, ← EReal.coe_sub]
  have : ∀ k ∈ range n, v k * (Ideal.div (weight S (top S n) k) ((∑ k ∈ range n, w k : ℝ) : EReal)
        - (l : EReal) * Ideal.div (weight T (top T n) k) ((∑ k ∈ range n, u k : ℝ) : EReal))
      = ((x k * (w k / (∑ k ∈ range n, w k) - l * (u k / ∑ k ∈ range n, u k)) : ℝ) : EReal) := by
    intro k hk
    rw [hx k (mem_range.mp hk), hw k (mem_range.mp hk), hu k (mem_range.mp hk), div_coe _ hw0.ne', div_coe _ hu0.ne',
      ← EReal.coe_mul, ← EReal.coe_sub, ← EReal.coe_mul]
  rw [sum_congr rfl this, ← coe_sum]
  congr 1
  rw [sum_div, sum_div, mul_sum, ← sum_sub_distrib]
  exact sum_congr rfl fun k _ => by ring

end Cert.Online

end
-- ==== Proof.Tile.lean ====
module

public import proofs.«01_k».proof.Proof.Gen.KernelIdeal.Value
public import proofs.«01_k».proof.Proof.Online
public import Idealize.ShloMosaic.Lib.Pointwise
public import Idealize.ShloMosaic.Lib.WritesUnit
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen Cert.Online

/-- Two stores of the two halves of a buffer along its first axis: an index of the first half reads the first store. -/
theorem read_pair_zero {Val : EltTy → Type} {e : EltTy} {n m : ℕ} (v : View sig .tc .vmem ⟨3, ![2, n, m]⟩ e) (f : v.ty.Contents Val)
    (inb1 : ∀ a, (![1, 0, 0] : Fin 3 → ℕ) a + (⟨3, ![1, n, m]⟩ : Shape).size a ≤ (⟨3, ![2, n, m]⟩ : Shape).size a)
    (inb0 : ∀ a, (![0, 0, 0] : Fin 3 → ℕ) a + (⟨3, ![1, n, m]⟩ : Shape).size a ≤ (⟨3, ![2, n, m]⟩ : Shape).size a)
    (w1 w0 : (⟨3, ![1, n, m]⟩ : Shape).Idx → Val e) (r : Fin n) (k : Fin m) :
    v.read Val (v.writes Val f [⟨Rect.unit ![1, 0, 0] (⟨3, ![1, n, m]⟩ : Shape).size inb1, w1⟩, ⟨Rect.unit ![0, 0, 0] (⟨3, ![1, n, m]⟩ : Shape).size inb0, w0⟩]) (ix3 0 r k) = w0 (ix3 0 r k) := by
  rw [View.read_writes_cons_unit_of_not_mem v f inb1 w1 _ _ rfl 0 (Or.inl Nat.zero_lt_one)]
  exact View.read_writes_cons_unit_of_mem v f inb0 w0 _ _ (ix3 0 r k) rfl (fun a => by fin_cases a <;> simp [ix3])

/-- … and an index of the second half reads the second store. -/
theorem read_pair_one {Val : EltTy → Type} {e : EltTy} {n m : ℕ} (v : View sig .tc .vmem ⟨3, ![2, n, m]⟩ e) (f : v.ty.Contents Val)
    (inb1 : ∀ a, (![1, 0, 0] : Fin 3 → ℕ) a + (⟨3, ![1, n, m]⟩ : Shape).size a ≤ (⟨3, ![2, n, m]⟩ : Shape).size a)
    (L : List (View.Piece Val ⟨3, ![2, n, m]⟩ e)) (w1 : (⟨3, ![1, n, m]⟩ : Shape).Idx → Val e) (r : Fin n) (k : Fin m) :
    v.read Val (v.writes Val f (⟨Rect.unit ![1, 0, 0] (⟨3, ![1, n, m]⟩ : Shape).size inb1, w1⟩ :: L)) (ix3 1 r k) = w1 (ix3 0 r k) :=
  View.read_writes_cons_unit_of_mem v f inb1 w1 _ _ (ix3 0 r k) rfl (fun a => by fin_cases a <;> simp [ix3])

/-- The float word of −∞, at the ideal values, is the bottom element. -/
theorem ofBits_negInf : Ideal.ofBits .f32 0xFF800000#32 = (⊥ : EReal) := by
  simp [Ideal.ofBits, Ideal.ieee]

/-- Row `n` of a resident block of 8192 rows, at column `d`; past the last row the index wraps round. -/
def rowAt (X : S1x8192x128.Idx → Elt Ideal .bf16) (n : ℕ) (d : Fin 128) : EReal := X (ix3 0 ⟨n % 8192, Nat.mod_lt _ (by decide)⟩ d)

/-- A load of 512 rows from row `n` on, at its row `x` and column `d`. -/
theorem block_at (X : S1x8192x128.Idx → Elt Ideal .bf16) {o : Fin 3 → ℕ} {n : ℕ} (ho : o = ![0, n, 0]) (x : Fin 512) (d : Fin 128)
    (h0 : o 0 < 1) (h1 : o 1 + x.val < 8192) (h2 : o 2 + d.val < 128) :
    X (ix3 ⟨o 0, h0⟩ ⟨o 1 + x.val, h1⟩ ⟨o 2 + d.val, h2⟩) = rowAt X (n + x) d := by
  subst ho
  have h1' : n + x.val < 8192 := h1
  have e1 : (⟨(![0, n, 0] : Fin 3 → ℕ) 1 + x.val, h1⟩ : Fin 8192) = ⟨(n + x.val) % 8192, Nat.mod_lt _ (by decide)⟩ :=
    Fin.ext (Nat.mod_eq_of_lt h1').symm
  have e2 : (⟨(![0, n, 0] : Fin 3 → ℕ) 2 + d.val, h2⟩ : Fin 128) = d := Fin.ext (Nat.zero_add _)
  unfold rowAt
  rw [e1, e2]
  rfl

/-- The greatest score after one more tile. -/
theorem step_top {S : ℕ → EReal} {n : ℕ} {M : EReal} {s : Fin 512 → EReal} (hM : M = top S n) (hs : ∀ j, s j = S (n + j)) :
    max M (Finset.univ.fold max ⊥ s) = top S (n + 512) := by
  rw [hM, show s = fun j : Fin 512 => S (n + j) from funext hs]
  exact top_step S n 512

/-- The mass after one more tile: the old one rescaled, plus the tile's weights. -/
theorem step_mass {S : ℕ → EReal} {n : ℕ} {M L : EReal} {s : Fin 512 → EReal} (hM : M = top S n) (hL : L = mass S n) (hs : ∀ j, s j = S (n + j)) :
    Ideal.exp (M - max M (Finset.univ.fold max ⊥ s)) * L + ∑ j, Ideal.exp (s j - max M (Finset.univ.fold max ⊥ s)) = mass S (n + 512) := by
  rw [step_top hM hs, hM, hL, show s = fun j : Fin 512 => S (n + j) from funext hs]
  exact mass_step S n 512

/-- The weighted sum of the values after one more tile. -/
theorem step_mixed {S v : ℕ → EReal} {n : ℕ} {M A : EReal} {s w : Fin 512 → EReal} (hM : M = top S n) (hA : A = mixed S v n)
    (hs : ∀ j, s j = S (n + j)) (hw : ∀ j, w j = v (n + j)) :
    Ideal.exp (M - max M (Finset.univ.fold max ⊥ s)) * A + ∑ j, Ideal.exp (s j - max M (Finset.univ.fold max ⊥ s)) * w j = mixed S v (n + 512) := by
  rw [step_top hM hs, hM, hA, show s = fun j : Fin 512 => S (n + j) from funext hs, show w = fun j : Fin 512 => v (n + j) from funext hw]
  exact mixed_step S v n 512

/-- What the three scratch buffers hold for half `h` once the first `n` keys are done: per query row the greatest score, the
    mass of the weights and, per column, the weighted sum of the values. -/
def Holds (arg9 : Memref sig .tc .vmem S2x128x1 .f32) (arg10 : Memref sig .tc .vmem S2x128x1 .f32) (arg11 : Memref sig .tc .vmem S2x128x128 .f32)
    (h : Fin 2) (S : Fin 128 → ℕ → EReal) (V : Fin 128 → ℕ → EReal) (n : ℕ)
    (f9 : BufTy.Contents (Elt Ideal) arg9.view.ty) (f10 : BufTy.Contents (Elt Ideal) arg10.view.ty) (f11 : BufTy.Contents (Elt Ideal) arg11.view.ty) : Prop :=
  ∀ r : Fin 128, View.read (Elt Ideal) arg9.view f9 (ix3 h r 0) = top (S r) n
    ∧ View.read (Elt Ideal) arg10.view f10 (ix3 h r 0) = mass (S r) n
    ∧ ∀ e : Fin 128, View.read (Elt Ideal) arg11.view f11 (ix3 h r e) = mixed (S r) (V e) n

section
variable (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S1x128x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x128x128 .bf16) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x128x128 .f32) (harg11 : arg11.IsWhole)
variable (v8 : FVec Ideal S128x128 .bf16) (v13 : FVec Ideal S128x128 .bf16) (v20 : IVec S128x1 32) (v23 : BitVec 32) (v27 : BitVec 32) (v32 : FVec Ideal S2x128x1 .f32) (X_arg6 : BufTy.Contents (Elt Ideal) arg6.view.ty) (X_arg7 : BufTy.Contents (Elt Ideal) arg7.view.ty)

/-- One tile that every row sees whole, half 0. -/
theorem t1_zero (k : Fin (k0_t1_loop i).trips) {n : ℕ} (ho : k0_off1 i k = ![0, n, 0]) (S : Fin 128 → ℕ → EReal)
    (hS : ∀ (r : Fin 128) (j : Fin 512), ∑ d, v8 (ix2 r d) * rowAt (arg6.view.read (Elt Ideal) X_arg6) (n + j) d = S r (n + j))
    (f9 : BufTy.Contents (Elt Ideal) arg9.view.ty) (f10 : BufTy.Contents (Elt Ideal) arg10.view.ty) (f11 : BufTy.Contents (Elt Ideal) arg11.view.ty)
    (H : Holds arg9 arg10 arg11 0 S (fun e m => rowAt (arg7.view.read (Elt Ideal) X_arg7) m e) n f9 f10 f11) :
    Holds arg9 arg10 arg11 0 S (fun e m => rowAt (arg7.view.read (Elt Ideal) X_arg7) m e) (n + 512)
      (arg9.view.writes (Elt Ideal) f9 (tripL_k0_t1 𝒱 c bd i arg3 harg3 arg4 harg4 arg5 harg5 arg6 harg6 arg7 harg7 arg8 harg8 arg9 harg9 arg10 harg10 arg11 harg11 v8 v13 v20 v23 v27 v32 X_arg6 X_arg7 k f9 f10 f11).1)
      (arg10.view.writes (Elt Ideal) f10 (tripL_k0_t1 𝒱 c bd i arg3 harg3 arg4 harg4 arg5 harg5 arg6 harg6 arg7 harg7 arg8 harg8 arg9 harg9 arg10 harg10 arg11 harg11 v8 v13 v20 v23 v27 v32 X_arg6 X_arg7 k f9 f10 f11).2.1)
      (arg11.view.writes (Elt Ideal) f11 (tripL_k0_t1 𝒱 c bd i arg3 harg3 arg4 harg4 arg5 harg5 arg6 harg6 arg7 harg7 arg8 harg8 arg9 harg9 arg10 harg10 arg11 harg11 v8 v13 v20 v23 v27 v32 X_arg6 X_arg7 k f9 f10 f11).2.2) := by
  intro r
  obtain ⟨hM, hL, hA⟩ := H r
  unfold tripL_k0_t1 trip_k0_t1
  frame_open
  dsimp only
  refine ⟨?_, ?_, fun e => ?_⟩
  · rw [read_pair_zero]
    unfold_payloads
    pointwise [View.readAt_eq_ld, block_at _ ho, ofBits_negInf]
    exact step_top hM (hS r)
  · rw [read_pair_zero]
    unfold_payloads
    pointwise [View.readAt_eq_ld, block_at _ ho, ofBits_negInf]
    exact step_mass hM hL (hS r)
  · rw [read_pair_zero]
    unfold_payloads
    pointwise [View.readAt_eq_ld, block_at _ ho, ofBits_negInf]
    exact step_mixed hM (hA e) (hS r) (fun j => rfl)

/-- One tile that every row sees whole, half 1. -/
theorem t1_one (k : Fin (k0_t1_loop i).trips) {n : ℕ} (ho : k0_off1 i k = ![0, n, 0]) (S : Fin 128 → ℕ → EReal)
    (hS : ∀ (r : Fin 128) (j : Fin 512), ∑ d, v13 (ix2 r d) * rowAt (arg6.view.read (Elt Ideal) X_arg6) (n + j) d = S r (n + j))
    (f9 : BufTy.Contents (Elt Ideal) arg9.view.ty) (f10 : BufTy.Contents (Elt Ideal) arg10.view.ty) (f11 : BufTy.Contents (Elt Ideal) arg11.view.ty)
    (H : Holds arg9 arg10 arg11 1 S (fun e m => rowAt (arg7.view.read (Elt Ideal) X_arg7) m e) n f9 f10 f11) :
    Holds arg9 arg10 arg11 1 S (fun e m => rowAt (arg7.view.read (Elt Ideal) X_arg7) m e) (n + 512)
      (arg9.view.writes (Elt Ideal) f9 (tripL_k0_t1 𝒱 c bd i arg3 harg3 arg4 harg4 arg5 harg5 arg6 harg6 arg7 harg7 arg8 harg8 arg9 harg9 arg10 harg10 arg11 harg11 v8 v13 v20 v23 v27 v32 X_arg6 X_arg7 k f9 f10 f11).1)
      (arg10.view.writes (Elt Ideal) f10 (tripL_k0_t1 𝒱 c bd i arg3 harg3 arg4 harg4 arg5 harg5 arg6 harg6 arg7 harg7 arg8 harg8 arg9 harg9 arg10 harg10 arg11 harg11 v8 v13 v20 v23 v27 v32 X_arg6 X_arg7 k f9 f10 f11).2.1)
      (arg11.view.writes (Elt Ideal) f11 (tripL_k0_t1 𝒱 c bd i arg3 harg3 arg4 harg4 arg5 harg5 arg6 harg6 arg7 harg7 arg8 harg8 arg9 harg9 arg10 harg10 arg11 harg11 v8 v13 v20 v23 v27 v32 X_arg6 X_arg7 k f9 f10 f11).2.2) := by
  intro r
  obtain ⟨hM, hL, hA⟩ := H r
  unfold tripL_k0_t1 trip_k0_t1
  frame_open
  dsimp only
  refine ⟨?_, ?_, fun e => ?_⟩
  · rw [read_pair_one]
    unfold_payloads
    pointwise [View.readAt_eq_ld, block_at _ ho, ofBits_negInf]
    exact step_top hM (hS r)
  · rw [read_pair_one]
    unfold_payloads
    pointwise [View.readAt_eq_ld, block_at _ ho, ofBits_negInf]
    exact step_mass hM hL (hS r)
  · rw [read_pair_one]
    unfold_payloads
    pointwise [View.readAt_eq_ld, block_at _ ho, ofBits_negInf]
    exact step_mixed hM (hA e) (hS r) (fun j => rfl)

/-- A masked score (half 0): the product of the query row with the key row where the mask lets it through, −∞ elsewhere. -/
theorem masked_zero (i : grid0.Coords) (arg6 : Memref sig .tc .vmem S1x8192x128 .bf16) (v8 : FVec Ideal S128x128 .bf16) (v20 : IVec S128x1 32) (v23 : BitVec 32)
    (X_arg6 : BufTy.Contents (Elt Ideal) arg6.view.ty) (k : Fin (k0_t3_loop i).trips) {n : ℕ} (ho : k0_off3 i k = ![0, n, 0]) (r : Fin 128) (j : Fin 512) :
    k0_pay41 i v8 v20 v23 1#32 k (View.readAt (Elt Ideal) arg6.view (Rect.unit (s := S1x8192x128) (k0_off3 i k) S1x512x128.size (k0_off3_inb i k)).toLoadRect X_arg6) (ix2 r j)
      = if k0_pay40 i v20 v23 1#32 k (ix2 r j) = 1#1 then ∑ d, v8 (ix2 r d) * rowAt (arg6.view.read (Elt Ideal) X_arg6) (n + j) d else (⊥ : EReal) := by
  unfold k0_pay41 k0_pay38
  pointwise [View.readAt_eq_ld, block_at _ ho, ofBits_negInf]
  rfl

/-- A masked score (half 1): the product of the query row with the key row where the mask lets it through, −∞ elsewhere. -/
theorem masked_one (i : grid0.Coords) (arg6 : Memref sig .tc .vmem S1x8192x128 .bf16) (v13 : FVec Ideal S128x128 .bf16) (v20 : IVec S128x1 32) (v23 : BitVec 32)
    (X_arg6 : BufTy.Contents (Elt Ideal) arg6.view.ty) (k : Fin (k0_t3_loop i).trips) {n : ℕ} (ho : k0_off3 i k = ![0, n, 0]) (r : Fin 128) (j : Fin 512) :
    k0_pay50 v13 (k0_pay38 (View.readAt (Elt Ideal) arg6.view (Rect.unit (s := S1x8192x128) (k0_off3 i k) S1x512x128.size (k0_off3_inb i k)).toLoadRect X_arg6)) (k0_pay40 i v20 v23 1#32 k) (ix2 r j)
      = if k0_pay40 i v20 v23 1#32 k (ix2 r j) = 1#1 then ∑ d, v13 (ix2 r d) * rowAt (arg6.view.read (Elt Ideal) X_arg6) (n + j) d else (⊥ : EReal) := by
  unfold k0_pay50 k0_pay38
  pointwise [View.readAt_eq_ld, block_at _ ho, ofBits_negInf]
  rfl

/-- One tile with the mask of the chunks, half 0. -/
theorem t3_zero (k : Fin (k0_t3_loop i).trips) {n : ℕ} (ho : k0_off3 i k = ![0, n, 0]) (S : Fin 128 → ℕ → EReal)
    (hS : ∀ (r : Fin 128) (j : Fin 512), (if k0_pay40 i v20 v23 1#32 k (ix2 r j) = 1#1 then ∑ d, v8 (ix2 r d) * rowAt (arg6.view.read (Elt Ideal) X_arg6) (n + j) d else ⊥) = S r (n + j))
    (f9 : BufTy.Contents (Elt Ideal) arg9.view.ty) (f10 : BufTy.Contents (Elt Ideal) arg10.view.ty) (f11 : BufTy.Contents (Elt Ideal) arg11.view.ty)
    (H : Holds arg9 arg10 arg11 0 S (fun e m => rowAt (arg7.view.read (Elt Ideal) X_arg7) m e) n f9 f10 f11) :
    Holds arg9 arg10 arg11 0 S (fun e m => rowAt (arg7.view.read (Elt Ideal) X_arg7) m e) (n + 512)
      (arg9.view.writes (Elt Ideal) f9 (tripL_k0_t3 𝒱 c bd i arg3 harg3 arg4 harg4 arg5 harg5 arg6 harg6 arg7 harg7 arg8 harg8 arg9 harg9 arg10 harg10 arg11 harg11 v8 v13 v20 v23 v27 v32 X_arg6 X_arg7 k f9 f10 f11).1)
      (arg10.view.writes (Elt Ideal) f10 (tripL_k0_t3 𝒱 c bd i arg3 harg3 arg4 harg4 arg5 harg5 arg6 harg6 arg7 harg7 arg8 harg8 arg9 harg9 arg10 harg10 arg11 harg11 v8 v13 v20 v23 v27 v32 X_arg6 X_arg7 k f9 f10 f11).2.1)
      (arg11.view.writes (Elt Ideal) f11 (tripL_k0_t3 𝒱 c bd i arg3 harg3 arg4 harg4 arg5 harg5 arg6 harg6 arg7 harg7 arg8 harg8 arg9 harg9 arg10 harg10 arg11 harg11 v8 v13 v20 v23 v27 v32 X_arg6 X_arg7 k f9 f10 f11).2.2) := by
  intro r
  obtain ⟨hM, hL, hA⟩ := H r
  have hs := fun j => (masked_zero i arg6 v8 v20 v23 X_arg6 k ho r j).trans (hS r j)
  unfold tripL_k0_t3 trip_k0_t3
  frame_open
  dsimp only
  refine ⟨?_, ?_, fun e => ?_⟩
  · rw [read_pair_zero]
    unfold k0_pay49 k0_pay43 k0_pay42
    pointwise [View.readAt_eq_ld, block_at _ ho, ofBits_negInf]
    exact step_top hM (hs)
  · rw [read_pair_zero]
    unfold k0_pay47 k0_pay46 k0_pay45 k0_pay44 k0_pay43 k0_pay42
    pointwise [View.readAt_eq_ld, block_at _ ho, ofBits_negInf]
    exact step_mass hM hL (hs)
  · rw [read_pair_zero]
    unfold k0_pay48 k0_pay45 k0_pay44 k0_pay43 k0_pay42 k0_pay39
    pointwise [View.readAt_eq_ld, block_at _ ho, ofBits_negInf]
    exact step_mixed hM (hA e) (hs) (fun j => rfl)

/-- One tile with the mask of the chunks, half 1. -/
theorem t3_one (k : Fin (k0_t3_loop i).trips) {n : ℕ} (ho : k0_off3 i k = ![0, n, 0]) (S : Fin 128 → ℕ → EReal)
    (hS : ∀ (r : Fin 128) (j : Fin 512), (if k0_pay40 i v20 v23 1#32 k (ix2 r j) = 1#1 then ∑ d, v13 (ix2 r d) * rowAt (arg6.view.read (Elt Ideal) X_arg6) (n + j) d else ⊥) = S r (n + j))
    (f9 : BufTy.Contents (Elt Ideal) arg9.view.ty) (f10 : BufTy.Contents (Elt Ideal) arg10.view.ty) (f11 : BufTy.Contents (Elt Ideal) arg11.view.ty)
    (H : Holds arg9 arg10 arg11 1 S (fun e m => rowAt (arg7.view.read (Elt Ideal) X_arg7) m e) n f9 f10 f11) :
    Holds arg9 arg10 arg11 1 S (fun e m => rowAt (arg7.view.read (Elt Ideal) X_arg7) m e) (n + 512)
      (arg9.view.writes (Elt Ideal) f9 (tripL_k0_t3 𝒱 c bd i arg3 harg3 arg4 harg4 arg5 harg5 arg6 harg6 arg7 harg7 arg8 harg8 arg9 harg9 arg10 harg10 arg11 harg11 v8 v13 v20 v23 v27 v32 X_arg6 X_arg7 k f9 f10 f11).1)
      (arg10.view.writes (Elt Ideal) f10 (tripL_k0_t3 𝒱 c bd i arg3 harg3 arg4 harg4 arg5 harg5 arg6 harg6 arg7 harg7 arg8 harg8 arg9 harg9 arg10 harg10 arg11 harg11 v8 v13 v20 v23 v27 v32 X_arg6 X_arg7 k f9 f10 f11).2.1)
      (arg11.view.writes (Elt Ideal) f11 (tripL_k0_t3 𝒱 c bd i arg3 harg3 arg4 harg4 arg5 harg5 arg6 harg6 arg7 harg7 arg8 harg8 arg9 harg9 arg10 harg10 arg11 harg11 v8 v13 v20 v23 v27 v32 X_arg6 X_arg7 k f9 f10 f11).2.2) := by
  intro r
  obtain ⟨hM, hL, hA⟩ := H r
  have hs := fun j => (masked_one i arg6 v13 v20 v23 X_arg6 k ho r j).trans (hS r j)
  unfold tripL_k0_t3 trip_k0_t3
  frame_open
  dsimp only
  refine ⟨?_, ?_, fun e => ?_⟩
  · rw [read_pair_one]
    unfold k0_pay89 k0_pay52 k0_pay51
    pointwise [View.readAt_eq_ld, block_at _ ho, ofBits_negInf]
    exact step_top hM (hs)
  · rw [read_pair_one]
    unfold k0_pay87 k0_pay55 k0_pay54 k0_pay53 k0_pay52 k0_pay51
    pointwise [View.readAt_eq_ld, block_at _ ho, ofBits_negInf]
    exact step_mass hM hL (hs)
  · rw [read_pair_one]
    unfold k0_pay88 k0_pay54 k0_pay53 k0_pay52 k0_pay51 k0_pay39
    pointwise [View.readAt_eq_ld, block_at _ ho, ofBits_negInf]
    exact step_mixed hM (hA e) (hs) (fun j => rfl)

end
end Cert.KernelIdeal.Attn
end
-- ==== Proof.Words.lean ====
module

public import proofs.«01_k».proof.Proof.Gen.KernelIdeal.Value
public import Idealize.ShloMosaic.Lib.Pointwise
public import Idealize.ShloMosaic.Lib.Tactic.WordOmega

@[expose] public section
noncomputable section
open Idealize.ShloMosaic Idealize.ShloMosaic.TcCoe Idealize.SL.Sem
namespace Cert.KernelIdeal.Attn
open Cert.KernelIdeal Cert.KernelIdeal.Gen

/-- The number of key tiles that every row of the block sees whole. -/
def nFull (i : grid0.Coords) : ℕ := (128 * (i 2).val + 64) / 512

/-- The number of key tiles that the block visits. -/
def nTiles (i : grid0.Coords) : ℕ := (128 * (i 2).val + 639) / 512

/-- The word of `nFull`, as the kernel computes it. -/
def fullWord (i : grid0.Coords) : BitVec 32 :=
  Scalar.divsi (Scalar.minsi (Scalar.addi (Scalar.addi 0#32 (Scalar.muli (BitVec.ofNat 32 (i 2).val) 128#32)) 64#32) 8192#32) 512#32

/-- The unmasked loop visits the tiles that are seen whole. -/
theorem trips1 : ∀ i : grid0.Coords, (k0_t1_loop i).trips = nFull i := by decide +kernel

/-- The masked loop visits the tiles after them. -/
theorem trips3 : ∀ i : grid0.Coords, (k0_t3_loop i).trips = nTiles i - nFull i := by decide +kernel

/-- The remainder of the unmasked loop makes no trip. -/
theorem trips2 : ∀ i : grid0.Coords, (k0_t2_loop i).trips = 0 := by decide +kernel

/-- The remainder of the masked loop makes no trip. -/
theorem trips4 : ∀ i : grid0.Coords, (k0_t4_loop i).trips = 0 := by decide +kernel

/-- Trip `k` of the unmasked loop loads the keys from `512 * k` on. -/
theorem off1 : ∀ (i : grid0.Coords) (k : Fin (k0_t1_loop i).trips), k0_off1 i k = ![0, 512 * k.val, 0] := by decide +kernel

/-- Trip `k` of the masked loop loads the keys from `512 * (nFull + k)` on. -/
theorem off3 : ∀ (i : grid0.Coords) (k : Fin (k0_t3_loop i).trips), k0_off3 i k = ![0, 512 * (nFull i + k.val), 0] := by decide +kernel

/-- … and its word, from which the mask is made, is the same number. -/
theorem iv3 (i : grid0.Coords) (k : Fin (k0_t3_loop i).trips) :
    Scalar.muli (Scf.iv (fullWord i) 1#32 k) 512#32 = BitVec.ofNat 32 (512 * (nFull i + k.val)) := by
  apply BitVec.eq_of_toNat_eq
  have h : (Scalar.muli (Scf.iv (fullWord i) 1#32 k) 512#32).toNat = 512 * (nFull i + k.val) := congrFun (off3 i k) 1
  have hk := lt_of_lt_of_eq k.isLt (trips3 i)
  have hb : (i 2).val < 64 := (i 2).isLt
  rw [h, BitVec.toNat_ofNat, Nat.mod_eq_of_lt]
  unfold nFull nTiles at *
  omega

/-- The tiles visited stay inside the 8192 keys. -/
theorem nTiles_le (i : grid0.Coords) : nTiles i ≤ 16 := by
  have hb : (i 2).val < 64 := (i 2).isLt
  unfold nTiles
  omega

/-- Whole tiles are among the visited ones. -/
theorem nFull_le (i : grid0.Coords) : nFull i ≤ nTiles i := by
  unfold nFull nTiles
  omega

/-- A logical shift by six places of a small word divides it by 64. -/
theorem shift_toNat (n : ℕ) (hn : n < 8192) : (IntOp.shrui .vector (BitVec.ofNat 32 n) 6#32).toNat = n / 64 := by
  show ((BitVec.ofNat 32 n) >>> (6#32)).toNat = n / 64
  rw [BitVec.ushiftRight_eq', BitVec.toNat_ushiftRight, BitVec.toNat_ofNat, Nat.mod_eq_of_lt (by omega)]
  exact Nat.shiftRight_eq_div_pow n 6

/-- The mask bit of the key position `n` and the query position `a`: set exactly when the chunk of the key is not after the chunk of the query. -/
theorem mask_word (n a : ℕ) (hn : n < 8192) (ha : a < 8192) :
  IntOp.andi (IntOp.cmpi .sle (IntOp.shrui .vector (BitVec.ofNat 32 n) 6#32) (IntOp.shrui .vector (BitVec.ofNat 32 a) 6#32)) (IntOp.cmpi .slt (BitVec.ofNat 32 n) 8192#32) = 1#1
   ↔ n / 64 ≤ a / 64 := by
  have h1 := shift_toNat n hn
  have h2 := shift_toNat a ha
  generalize IntOp.shrui .vector (BitVec.ofNat 32 n) 6#32 = p at *
  generalize IntOp.shrui .vector (BitVec.ofNat 32 a) 6#32 = q at *
  rw [← h1, ← h2]
  have hp : p.toNat < 128 := by omega
  have hq : q.toNat < 128 := by omega
  have h3 : (BitVec.ofNat 32 n).toNat = n := by rw [BitVec.toNat_ofNat, Nat.mod_eq_of_lt (by omega)]
  rw [← h3] at hn
  generalize BitVec.ofNat 32 n = w at *
  clear h1 h2 h3 ha
  word_omega

/-- The mask of a tile that begins at key `n`, at its row and column. -/
theorem mask_at (i : grid0.Coords) (k : Fin (k0_t3_loop i).trips) (v23 : BitVec 32) (n : ℕ) (hn : n + 512 ≤ 8192) (hw : Scalar.muli (Scf.iv v23 1#32 k) 512#32 = BitVec.ofNat 32 n) (r : Fin 128) (j : Fin 512) : k0_pay40 i (k0_pay78 i) v23 1#32 k (ix2 r j) = 1#1 ↔ (n + j.val) / 64 ≤ (128 * (i 2).val + r.val) / 64 := by
  have hb : (i 2).val < 64 := (i 2).isLt
  have h78 : k0_pay78 i (ix2 r 0) = IntOp.shrui .vector (BitVec.ofNat 32 (128 * (i 2).val + r.val)) 6#32 := by
    have hx : Scalar.addi 0#32 (Scalar.muli (BitVec.ofNat 32 (i 2).val) 128#32) = BitVec.ofNat 32 (128 * (i 2).val) := by
      rw [BitVec.ofNat_mul, BitVec.mul_comm]
      exact BitVec.zero_add _
    unfold k0_pay78
    dsimp only
    rw [hx]
    pointwise []
    rw [BitVec.ofNat_add]
    rfl
  have ha : IntOp.addi (BitVec.ofNat 32 n) (BitVec.ofNat 32 j.val) = BitVec.ofNat 32 (n + j.val) := (BitVec.ofNat_add ..).symm
  rw [← mask_word (n + j.val) (128 * (i 2).val + r.val) (by omega) (by omega), ← ha, ← h78]
  unfold k0_pay40
  dsimp only
  rw [hw]
  generalize BitVec.ofNat 32 n = w
  generalize k0_pay78 i = v20
  pointwise []

end Cert.KernelIdeal.Attn
end
end
-- ==== Proof.Loops.lean ====
module

public import proofs.«01_k».proof.Proof.Gen.KernelIdeal.Value
public import proofs.«01_k».proof.Proof.Tile
public import proofs.«01_k».proof.Proof.Words
public import Idealize.ShloMosaic.Lib.Pointwise
public import Idealize.ShloMosaic.Lib.WritesUnit
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen Cert.Online

/-- The score of key `n` for row `r` of the block: the product of the two rows where the key's chunk is not after the query's, −∞ elsewhere. -/
def score (i : grid0.Coords) (q : FVec Ideal S128x128 .bf16) (X : S1x8192x128.Idx → Elt Ideal .bf16) (r : Fin 128) (n : ℕ) : EReal :=
  if n / 64 ≤ (128 * (i 2).val + r.val) / 64 then ∑ d, q (ix2 r d) * rowAt X n d else ⊥

/-- What the scratch buffers hold after the first `n` keys, for both halves. -/
def Done (i : grid0.Coords) (arg9 : Memref sig .tc .vmem S2x128x1 .f32) (arg10 : Memref sig .tc .vmem S2x128x1 .f32) (arg11 : Memref sig .tc .vmem S2x128x128 .f32)
    (q0 q1 : FVec Ideal S128x128 .bf16) (XK XV : S1x8192x128.Idx → Elt Ideal .bf16) (n : ℕ)
    (f9 : BufTy.Contents (Elt Ideal) arg9.view.ty) (f10 : BufTy.Contents (Elt Ideal) arg10.view.ty) (f11 : BufTy.Contents (Elt Ideal) arg11.view.ty) : Prop :=
  Holds arg9 arg10 arg11 0 (score i q0 XK) (fun e m => rowAt XV m e) n f9 f10 f11
    ∧ Holds arg9 arg10 arg11 1 (score i q1 XK) (fun e m => rowAt XV m e) n f9 f10 f11

/-- Keys of the tiles that are seen whole are seen by every row. -/
theorem score_full {i : grid0.Coords} {k : ℕ} (hk : k < nFull i) (q : FVec Ideal S128x128 .bf16) (X : S1x8192x128.Idx → Elt Ideal .bf16) (r : Fin 128) (j : Fin 512) :
    ∑ d, q (ix2 r d) * rowAt X (512 * k + j) d = score i q X r (512 * k + j) := by
  have hb : (i 2).val < 64 := (i 2).isLt
  unfold score
  rw [if_pos]
  unfold nFull at hk
  omega

/-- The mask of the kernel is the mask of the score. -/
theorem score_masked {i : grid0.Coords} (k : Fin (k0_t3_loop i).trips) (q : FVec Ideal S128x128 .bf16) (X : S1x8192x128.Idx → Elt Ideal .bf16) (r : Fin 128) (j : Fin 512) :
    (if k0_pay40 i (k0_pay78 i) (fullWord i) 1#32 k (ix2 r j) = 1#1 then ∑ d, q (ix2 r d) * rowAt X (512 * (nFull i + k.val) + j) d else ⊥)
      = score i q X r (512 * (nFull i + k.val) + j) := by
  have hk := lt_of_lt_of_eq k.isLt (trips3 i)
  have := nTiles_le i
  unfold score
  exact if_congr (mask_at i k (fullWord i) _ (by omega) (iv3 i k) r j) rfl rfl

section
variable (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S1x128x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x128x128 .bf16) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x128x128 .f32) (harg11 : arg11.IsWhole)
variable (v8 : FVec Ideal S128x128 .bf16) (v13 : FVec Ideal S128x128 .bf16) (v27 : BitVec 32) (v32 : FVec Ideal S2x128x1 .f32) (X_arg6 : BufTy.Contents (Elt Ideal) arg6.view.ty) (X_arg7 : BufTy.Contents (Elt Ideal) arg7.view.ty)
/-- The unmasked loop: after `k` trips the first `512 * k` keys are done. -/
theorem loop1 (f9 : BufTy.Contents (Elt Ideal) arg9.view.ty) (f10 : BufTy.Contents (Elt Ideal) arg10.view.ty) (f11 : BufTy.Contents (Elt Ideal) arg11.view.ty)
    (H : Done i arg9 arg10 arg11 v8 v13 (arg6.view.read (Elt Ideal) X_arg6) (arg7.view.read (Elt Ideal) X_arg7) (0) f9 f10 f11) (k : ℕ) (hk : k ≤ (k0_t1_loop i).trips) :
    Done i arg9 arg10 arg11 v8 v13 (arg6.view.read (Elt Ideal) X_arg6) (arg7.view.read (Elt Ideal) X_arg7) (512 * k) (arg9.view.writes (Elt Ideal) f9 (pb_k0_t1 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 k).1) (arg10.view.writes (Elt Ideal) f10 (pb_k0_t1 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 k).2.1) (arg11.view.writes (Elt Ideal) f11 (pb_k0_t1 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 k).2.2) := by
  induction k with
  | zero => exact H
  | succ k ih =>
    obtain ⟨H0, H1⟩ := ih (Nat.le_of_succ_le hk)
    have hs := pb_k0_t1_succ 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 ⟨k, hk⟩
    rw [show ((⟨k, hk⟩ : Fin (k0_t1_loop i).trips).val + 1) = k + 1 from rfl] at hs
    rw [hs, View.writes_append, View.writes_append, View.writes_append]
    generalize hkk : (⟨k, hk⟩ : Fin (k0_t1_loop i).trips) = kk
    obtain rfl : k = kk.val := by rw [← hkk]
    exact ⟨(t1_zero 𝒱 c bd i arg3 harg3 arg4 harg4 arg5 harg5 arg6 harg6 arg7 harg7 arg8 harg8 arg9 harg9 arg10 harg10 arg11 harg11 v8 v13 (k0_pay78 i) (fullWord i) v27 v32 X_arg6 X_arg7 kk (off1 i kk) _ (score_full (lt_of_lt_of_eq kk.isLt (trips1 i)) v8 _) _ _ _ H0), (t1_one 𝒱 c bd i arg3 harg3 arg4 harg4 arg5 harg5 arg6 harg6 arg7 harg7 arg8 harg8 arg9 harg9 arg10 harg10 arg11 harg11 v8 v13 (k0_pay78 i) (fullWord i) v27 v32 X_arg6 X_arg7 kk (off1 i kk) _ (score_full (lt_of_lt_of_eq kk.isLt (trips1 i)) v13 _) _ _ _ H1)⟩

/-- The masked loop: after `k` trips the first `512 * (nFull + k)` keys are done. -/
theorem loop3 (f9 : BufTy.Contents (Elt Ideal) arg9.view.ty) (f10 : BufTy.Contents (Elt Ideal) arg10.view.ty) (f11 : BufTy.Contents (Elt Ideal) arg11.view.ty)
    (H : Done i arg9 arg10 arg11 v8 v13 (arg6.view.read (Elt Ideal) X_arg6) (arg7.view.read (Elt Ideal) X_arg7) (512 * nFull i) f9 f10 f11) (k : ℕ) (hk : k ≤ (k0_t3_loop i).trips) :
    Done i arg9 arg10 arg11 v8 v13 (arg6.view.read (Elt Ideal) X_arg6) (arg7.view.read (Elt Ideal) X_arg7) (512 * (nFull i + k)) (arg9.view.writes (Elt Ideal) f9 (pb_k0_t3 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 k).1) (arg10.view.writes (Elt Ideal) f10 (pb_k0_t3 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 k).2.1) (arg11.view.writes (Elt Ideal) f11 (pb_k0_t3 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 k).2.2) := by
  induction k with
  | zero => exact H
  | succ k ih =>
    obtain ⟨H0, H1⟩ := ih (Nat.le_of_succ_le hk)
    have hs := pb_k0_t3_succ 𝒱 c bd i arg3 harg3 arg4 harg4 arg5 harg5 arg6 harg6 arg7 harg7 arg8 harg8 arg9 harg9 arg10 harg10 arg11 harg11 v8 v13 (k0_pay78 i) (fullWord i) v27 v32 X_arg6 X_arg7 f9 f10 f11 ⟨k, hk⟩
    rw [show ((⟨k, hk⟩ : Fin (k0_t3_loop i).trips).val + 1) = k + 1 from rfl] at hs
    rw [hs, View.writes_append, View.writes_append, View.writes_append]
    generalize hkk : (⟨k, hk⟩ : Fin (k0_t3_loop i).trips) = kk
    obtain rfl : k = kk.val := by rw [← hkk]
    exact ⟨(t3_zero 𝒱 c bd i arg3 harg3 arg4 harg4 arg5 harg5 arg6 harg6 arg7 harg7 arg8 harg8 arg9 harg9 arg10 harg10 arg11 harg11 v8 v13 (k0_pay78 i) (fullWord i) v27 v32 X_arg6 X_arg7 kk (off3 i kk) _ (score_masked kk v8 _) _ _ _ H0), (t3_one 𝒱 c bd i arg3 harg3 arg4 harg4 arg5 harg5 arg6 harg6 arg7 harg7 arg8 harg8 arg9 harg9 arg10 harg10 arg11 harg11 v8 v13 (k0_pay78 i) (fullWord i) v27 v32 X_arg6 X_arg7 kk (off3 i kk) _ (score_masked kk v13 _) _ _ _ H1)⟩

end
end Cert.KernelIdeal.Attn
end
-- ==== Proof.Block.lean ====
module

public import proofs.«01_k».proof.Proof.Gen.KernelIdeal.Value
public import proofs.«01_k».proof.Proof.Loops
public import Idealize.ShloMosaic.Lib.Pointwise
public import Idealize.ShloMosaic.Lib.WritesUnit
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen Cert.Online

section
variable (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S1x128x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x128x128 .bf16) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x128x128 .f32) (harg11 : arg11.IsWhole)

/-- The word of `nTiles`, as the kernel computes it. -/
def tilesWord (i : grid0.Coords) : BitVec 32 :=
  Scalar.divsi (Scalar.subi (Scalar.addi (Scalar.addi (Scalar.addi 0#32 (Scalar.muli (BitVec.ofNat 32 (i 2).val) 128#32)) 128#32) 512#32) 1#32) 512#32

/-- The remainder loop 2 writes nothing. -/
theorem pb2_nil (𝒱 : Variants) (v8 : FVec Ideal S128x128 .bf16) (v13 : FVec Ideal S128x128 .bf16) (v20 : IVec S128x1 32) (v23 v27 : BitVec 32) (v32 : FVec Ideal S2x128x1 .f32) (v44 : BitVec 32) (X_arg6 : BufTy.Contents (Elt Ideal) arg6.view.ty) (X_arg7 : BufTy.Contents (Elt Ideal) arg7.view.ty) (f9 : BufTy.Contents (Elt Ideal) arg9.view.ty) (f10 : BufTy.Contents (Elt Ideal) arg10.view.ty) (f11 : BufTy.Contents (Elt Ideal) arg11.view.ty) :
    pb_k0_t2 (F := Ideal) 𝒱 c none i arg3 harg3 arg4 harg4 arg5 harg5 arg6 harg6 arg7 harg7 arg8 harg8 arg9 harg9 arg10 harg10 arg11 harg11 v8 v13 v20 v23 v27 v32 v44 X_arg6 X_arg7 f9 f10 f11 (k0_t2_loop i).trips = ([], [], []) := by
  rw [trips2 i]
  rfl

/-- The remainder loop 4 writes nothing. -/
theorem pb4_nil (𝒱 : Variants) (v8 : FVec Ideal S128x128 .bf16) (v13 : FVec Ideal S128x128 .bf16) (v20 : IVec S128x1 32) (v23 v27 : BitVec 32) (v32 : FVec Ideal S2x128x1 .f32) (v49 : BitVec 32) (X_arg6 : BufTy.Contents (Elt Ideal) arg6.view.ty) (X_arg7 : BufTy.Contents (Elt Ideal) arg7.view.ty) (f9 : BufTy.Contents (Elt Ideal) arg9.view.ty) (f10 : BufTy.Contents (Elt Ideal) arg10.view.ty) (f11 : BufTy.Contents (Elt Ideal) arg11.view.ty) :
    pb_k0_t4 (F := Ideal) 𝒱 c none i arg3 harg3 arg4 harg4 arg5 harg5 arg6 harg6 arg7 harg7 arg8 harg8 arg9 harg9 arg10 harg10 arg11 harg11 v8 v13 v20 v23 v27 v32 v49 X_arg6 X_arg7 f9 f10 f11 (k0_t4_loop i).trips = ([], [], []) := by
  rw [trips4 i]
  rfl

/-- Before the loops: nothing is done, the greatest score is −∞ and both sums are zero. -/
theorem done_zero (q0 q1 : FVec Ideal S128x128 .bf16) (XK XV : S1x8192x128.Idx → Elt Ideal .bf16)
    (f9 : BufTy.Contents (Elt Ideal) arg9.view.ty) (f10 : BufTy.Contents (Elt Ideal) arg10.view.ty) (f11 : BufTy.Contents (Elt Ideal) arg11.view.ty) :
    Done i arg9 arg10 arg11 q0 q1 XK XV 0
      (arg9.view.writes (Elt Ideal) f9 [⟨Rect.unit ![0, 0, 0] S2x128x1.size inb_S2x128x1_S2x128x1_0_0_0, k0_pay79 (F := Ideal)⟩])
      (arg10.view.writes (Elt Ideal) f10 [⟨Rect.unit ![0, 0, 0] S2x128x1.size inb_S2x128x1_S2x128x1_0_0_0, k0_pay81 (F := Ideal) k0_pay80⟩])
      (arg11.view.writes (Elt Ideal) f11 [⟨Rect.unit ![0, 0, 0] S2x128x128.size inb_S2x128x128_S2x128x128_0_0_0, k0_pay82 (F := Ideal)⟩]) := by
  have key : ∀ (h : Fin 2) (S V : Fin 128 → ℕ → EReal), Holds arg9 arg10 arg11 h S V 0
      (arg9.view.writes (Elt Ideal) f9 [⟨Rect.unit ![0, 0, 0] S2x128x1.size inb_S2x128x1_S2x128x1_0_0_0, k0_pay79 (F := Ideal)⟩])
      (arg10.view.writes (Elt Ideal) f10 [⟨Rect.unit ![0, 0, 0] S2x128x1.size inb_S2x128x1_S2x128x1_0_0_0, k0_pay81 (F := Ideal) k0_pay80⟩])
      (arg11.view.writes (Elt Ideal) f11 [⟨Rect.unit ![0, 0, 0] S2x128x128.size inb_S2x128x128_S2x128x128_0_0_0, k0_pay82 (F := Ideal)⟩]) := by
    intro h S V r
    refine ⟨?_, ?_, fun e => ?_⟩
    · rw [View.read_writes_cons_unit_of_mem _ _ _ _ _ _ (ix3 h r 0) rfl (fun a => by fin_cases a <;> simp [ix3])]
      unfold k0_pay79
      pointwise [ofBits_negInf]
      rfl
    · rw [View.read_writes_cons_unit_of_mem _ _ _ _ _ _ (ix3 h r 0) rfl (fun a => by fin_cases a <;> simp [ix3])]
      unfold k0_pay81 k0_pay80
      pointwise [Ideal.ofBits_zero_f32]
      rfl
    · rw [View.read_writes_cons_unit_of_mem _ _ _ _ _ _ (ix3 h r e) rfl (fun a => by fin_cases a <;> simp [ix3])]
      unfold k0_pay82
      pointwise [Ideal.ofBits_zero_f32]
      rfl
  exact ⟨key 0 _ _, key 1 _ _⟩

/-- The keys after the last visited tile are seen by no row of the block. -/
theorem score_rest (q : FVec Ideal S128x128 .bf16) (X : S1x8192x128.Idx → Elt Ideal .bf16) (r : Fin 128) (k : ℕ) (hk : 512 * nTiles i ≤ k) :
    score i q X r k = ⊥ := by
  unfold score
  rw [if_neg]
  unfold nTiles at hk
  omega

/-- Once the visited tiles are done, all keys are done. -/
theorem done_all {q0 q1 : FVec Ideal S128x128 .bf16} {XK XV : S1x8192x128.Idx → Elt Ideal .bf16}
    {f9 : BufTy.Contents (Elt Ideal) arg9.view.ty} {f10 : BufTy.Contents (Elt Ideal) arg10.view.ty} {f11 : BufTy.Contents (Elt Ideal) arg11.view.ty}
    (H : Done i arg9 arg10 arg11 q0 q1 XK XV (512 * nTiles i) f9 f10 f11) : Done i arg9 arg10 arg11 q0 q1 XK XV 8192 f9 f10 f11 := by
  have hn : 512 * nTiles i ≤ 8192 := by have := nTiles_le i; omega
  have key : ∀ (h : Fin 2) (q : FVec Ideal S128x128 .bf16), Holds arg9 arg10 arg11 h (score i q XK) (fun e m => rowAt XV m e) (512 * nTiles i) f9 f10 f11
      → Holds arg9 arg10 arg11 h (score i q XK) (fun e m => rowAt XV m e) 8192 f9 f10 f11 := by
    intro h q H r
    obtain ⟨hM, hL, hA⟩ := H r
    have hS : ∀ k, 512 * nTiles i ≤ k → k < 8192 → score i q XK r k = ⊥ := fun k hk _ => score_rest i q XK r k hk
    exact ⟨hM.trans (top_extend hn hS), hL.trans (mass_extend hn hS), fun e => (hA e).trans (mixed_extend _ hn hS)⟩
  exact ⟨key 0 q0 H.1, key 1 q1 H.2⟩

/-- The difference of the two softmax averages at one value column. -/
def diffOut (S T v : ℕ → EReal) (lam : EReal) : EReal :=
  Ideal.div (mixed S v 8192) (mass S 8192) - lam * Ideal.div (mixed T v 8192) (mass T 8192)

/-- The root-mean-square norm of a row of 128 columns with its gain, times the output scale. -/
def normed (o g : Fin 128 → EReal) (e : Fin 128) : EReal :=
  o e * Ideal.rsqrt (Ideal.div (∑ x, o x * o x) (Ideal.ofBits .f32 0x43000000#32) + Ideal.ofBits .f32 0x358637BD#32) * g e
    * Ideal.ofBits .f32 0x3F4CCCCD#32

/-- What one grid point writes, at row `r` and column `e` of its block. -/
theorem block (x0 : Vec Ideal S1x128 .f32) (x1 : Vec Ideal S1x128 .f32) (x2 : Vec Ideal S1x128x128 .bf16) (x3 : Vec Ideal S1x8192x128 .bf16) (x4 : Vec Ideal S1x8192x128 .bf16) (r e : Fin 128) :
    out0_A_5 c i arg3 harg3 arg4 harg4 arg5 harg5 arg6 harg6 arg7 harg7 arg8 harg8 arg9 harg9 arg10 harg10 arg11 harg11 x0 x1 x2 x3 x4 (ix3 0 r e)
      = normed (fun e => diffOut (score i (k0_pay76 x2) x3 r) (score i (k0_pay77 x2) x3 r) (fun m => rowAt x4 m e) (x0 (ix2 0 e))) (fun e => x1 (ix2 0 e)) e := by
  frame_out
  generalize h1 : pb_k0_t1 (F := Ideal) _ _ _ _ _ _ _ _ _ _ _ _ _ _ _ _ _ _ _ _ _ _ _ _ _ _ _ _ _ _ _ _ _ _ = p1
  generalize h2 : pb_k0_t2 (F := Ideal) _ _ _ _ _ _ _ _ _ _ _ _ _ _ _ _ _ _ _ _ _ _ _ _ _ _ _ _ _ _ _ _ _ _ _ = p2
  generalize h3 : pb_k0_t3 (F := Ideal) _ _ _ _ _ _ _ _ _ _ _ _ _ _ _ _ _ _ _ _ _ _ _ _ _ _ _ _ _ _ _ _ _ _ = p3
  generalize h4 : pb_k0_t4 (F := Ideal) _ _ _ _ _ _ _ _ _ _ _ _ _ _ _ _ _ _ _ _ _ _ _ _ _ _ _ _ _ _ _ _ _ _ _ = p4
  obtain rfl : p2 = ([], [], []) := h2.symm.trans (pb2_nil ..)
  obtain rfl : p4 = ([], [], []) := h4.symm.trans (pb4_nil ..)
  unfold View.readCov
  simp only [List.nil_append, View.writes_append] at h1 h3 ⊢
  have D0 := done_zero i arg9 arg10 arg11 (k0_pay76 x2) (k0_pay77 x2) (arg6.view.read (Elt Ideal) (harg6.unread x3)) (arg7.view.read (Elt Ideal) (harg7.unread x4)) arg9.view.junk arg10.view.junk arg11.view.junk
  generalize arg9.view.writes (Elt Ideal) arg9.view.junk [_] = G9 at h1 h3 D0
  generalize arg10.view.writes (Elt Ideal) arg10.view.junk [_] = G10 at h1 h3 D0 ⊢
  generalize arg11.view.writes (Elt Ideal) arg11.view.junk [_] = G11 at h1 h3 D0 ⊢
  clear h2 h4
  change pb_k0_t1 Variants.none c none i arg3 harg3 arg4 harg4 arg5 harg5 arg6 harg6 arg7 harg7 arg8 harg8 arg9 harg9 arg10 harg10 arg11 harg11 (k0_pay76 x2) (k0_pay77 x2) (k0_pay78 i) (fullWord i) (tilesWord i) k0_pay80 (harg6.unread x3) (harg7.unread x4) _ _ _ (k0_t1_loop i).trips = p1 at h1
  change pb_k0_t3 Variants.none c none i arg3 harg3 arg4 harg4 arg5 harg5 arg6 harg6 arg7 harg7 arg8 harg8 arg9 harg9 arg10 harg10 arg11 harg11 (k0_pay76 x2) (k0_pay77 x2) (k0_pay78 i) (fullWord i) (tilesWord i) k0_pay80 (harg6.unread x3) (harg7.unread x4) _ _ _ (k0_t3_loop i).trips = p3 at h3
  have D1 := loop1 Variants.none c none i arg3 harg3 arg4 harg4 arg5 harg5 arg6 harg6 arg7 harg7 arg8 harg8 arg9 harg9 arg10 harg10 arg11 harg11 (k0_pay76 x2) (k0_pay77 x2) (tilesWord i) k0_pay80 (harg6.unread x3) (harg7.unread x4) G9 G10 G11 D0 (k0_t1_loop i).trips (le_refl _)
  rw [h1] at D1
  rw [trips1] at D1
  have D3 := loop3 Variants.none c none i arg3 harg3 arg4 harg4 arg5 harg5 arg6 harg6 arg7 harg7 arg8 harg8 arg9 harg9 arg10 harg10 arg11 harg11 (k0_pay76 x2) (k0_pay77 x2) (tilesWord i) k0_pay80 (harg6.unread x3) (harg7.unread x4) _ _ _ D1 (k0_t3_loop i).trips (le_refl _)
  rw [h3] at D3
  rw [trips3] at D3
  rw [Nat.add_sub_cancel' (nFull_le i)] at D3
  have D := done_all i arg9 arg10 arg11 D3
  rw [harg6.read_unread, harg7.read_unread] at D
  clear D1 D3 h1 h3
  generalize arg9.view.writes (Elt Ideal) _ p3.1 = f9 at D
  generalize arg10.view.writes (Elt Ideal) _ p3.2.1 = f10 at D ⊢
  generalize arg11.view.writes (Elt Ideal) _ p3.2.2 = f11 at D ⊢
  clear D0
  generalize k0_pay76 x2 = q0 at D ⊢
  generalize k0_pay77 x2 = q1 at D ⊢
  unfold normed diffOut
  unfold_payloads
  pointwise [View.readAt_eq_ld]
  simp only [fun r => (D.1 r).2.1, fun r e => (D.1 r).2.2 e, fun r => (D.2 r).2.1, fun r e => (D.2 r).2.2 e]
end

/-- The first half of the query row: its first 64 lanes, zero in the others. -/
theorem half_zero (x2 : Vec Ideal S1x128x128 .bf16) (r d : Fin 128) : k0_pay76 x2 (ix2 r d) = if d.val < 64 then x2 (ix3 0 r d) else (0 : EReal) := by
  unfold_payloads
  pointwise []
  have h : IntOp.cmpi .slt (BitVec.ofNat 32 d.val) 64#32 = 1#1 ↔ d.val < 64 := by
    word_omega
  exact if_congr h rfl rfl

/-- The second half: its last 64 lanes, zero in the others. -/
theorem half_one (x2 : Vec Ideal S1x128x128 .bf16) (r d : Fin 128) : k0_pay77 x2 (ix2 r d) = if d.val < 64 then (0 : EReal) else x2 (ix3 0 r d) := by
  unfold_payloads
  pointwise []
  have h : IntOp.cmpi .sge (BitVec.ofNat 32 d.val) 64#32 = 1#1 ↔ ¬ d.val < 64 := by
    word_omega
  refine (if_congr h rfl rfl).trans ?_
  by_cases hd : d.val < 64 <;> simp [hd]

end Cert.KernelIdeal.Attn
end
-- ==== Proof.Array.lean ====
module

public import proofs.«01_k».proof.Proof.Block
public import Idealize.ShloMosaic.Lib.Pipeline.Covers
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Online

variable (m : (ℓ : Loc nD τ sig) → Buf (Elt Ideal) ℓ)

/-- An activation array read at batch `b`, position `n` (wrapped round past the last), head `h`, column `e` of the head. -/
def act (X : S4x8192x512.Idx → Elt Ideal .bf16) (b h : Fin 4) (n : ℕ) (e : Fin 128) : EReal :=
  X (ix3 b ⟨n % 8192, Nat.mod_lt _ (by decide)⟩ ⟨128 * h.val + e.val, by omega⟩)

/-- Lane `d` of half `p` of a head. -/
def lane (p : Fin 2) (d : Fin 64) : Fin 128 := ⟨64 * p.val + d.val, by omega⟩

/-- The score of key `n` for query position `s`, batch `b`, head `h`, half `p`: −∞ where the key's chunk is after the query's. -/
def headScore (Q K : S4x8192x512.Idx → Elt Ideal .bf16) (b h : Fin 4) (p : Fin 2) (s n : ℕ) : EReal :=
  if n / 64 ≤ s / 64 then ∑ d : Fin 64, act Q b h s (lane p d) * act K b h n (lane p d) else ⊥

/-- The difference of the two attentions at batch `b`, position `s`, head `h`, column `e`. -/
def headOut (Q K V : S4x8192x512.Idx → Elt Ideal .bf16) (lam : EReal) (b h : Fin 4) (s : ℕ) (e : Fin 128) : EReal :=
  diffOut (headScore Q K b h 0 s) (headScore Q K b h 1 s) (fun n => act V b h n e) lam

/-- The result of the call at an index, from its three activation arrays, the scalar and the gain. -/
def callOut (Q K V : S4x8192x512.Idx → Elt Ideal .bf16) (lam : EReal) (g : Fin 128 → EReal) (y : S4x8192x512.Idx) : EReal :=
  normed (headOut Q K V lam (y 0) ⟨(y 2).val / 128, by have := (y 2).isLt; change (y 2).val < 512 at this; omega⟩ (y 1).val) g
    ⟨(y 2).val % 128, Nat.mod_lt _ (by decide)⟩

/-- The blocks of the queries and of the result: batch, query block and head of the grid point. -/
theorem index_q : ∀ t : Fin cfg0.N, win0_2.index t = ![(grid0.coords t 0).val, (grid0.coords t 2).val, (grid0.coords t 1).val] := by decide +kernel
theorem index_o : ∀ t : Fin cfg0.N, win0_5.index t = ![(grid0.coords t 0).val, (grid0.coords t 2).val, (grid0.coords t 1).val] := by decide +kernel

/-- The blocks of the keys and of the values: batch and head of the grid point, all positions. -/
theorem index_k : ∀ t : Fin cfg0.N, win0_3.index t = ![(grid0.coords t 0).val, 0, (grid0.coords t 1).val] := by decide +kernel
theorem index_v : ∀ t : Fin cfg0.N, win0_4.index t = ![(grid0.coords t 0).val, 0, (grid0.coords t 1).val] := by decide +kernel

/-- The scalar and the gain are staged whole at every grid point. -/
theorem index_l : ∀ t : Fin cfg0.N, win0_0.index t = ![0, 0] := by decide +kernel
theorem index_g : ∀ t : Fin cfg0.N, win0_1.index t = ![0, 0] := by decide +kernel

/-- A query block at its row and column. -/
theorem iblk_q (c : Dev nD) (t : Fin cfg0.N) (r d : Fin 128) :
    iblk m c 2 t (ix3 0 r d) = act (m ((c : Thread nD τ).loc main_arg0)) (grid0.coords t 0) (grid0.coords t 1) (128 * (grid0.coords t 2).val + r.val) d := by
  have hb : (grid0.coords t 2).val < 64 := (grid0.coords t 2).isLt
  have hm : (128 * (grid0.coords t 2).val + r.val) % 8192 = 128 * (grid0.coords t 2).val + r.val := Nat.mod_eq_of_lt (by omega)
  unfold act
  rw [← V_main_arg0 m c]
  blk_ext [iblk, index_q t, hm]

/-- The key block at a row and column. -/
theorem iblk_k (c : Dev nD) (t : Fin cfg0.N) (n : ℕ) (d : Fin 128) :
    rowAt (iblk m c 3 t) n d = act (m ((c : Thread nD τ).loc main_arg1)) (grid0.coords t 0) (grid0.coords t 1) n d := by
  unfold rowAt act
  rw [← V_main_arg1 m c]
  blk_ext [iblk, index_k t]

/-- The value block at a row and column. -/
theorem iblk_v (c : Dev nD) (t : Fin cfg0.N) (n : ℕ) (d : Fin 128) :
    rowAt (iblk m c 4 t) n d = act (m ((c : Thread nD τ).loc main_arg2)) (grid0.coords t 0) (grid0.coords t 1) n d := by
  unfold rowAt act
  rw [← V_main_arg2 m c]
  blk_ext [iblk, index_v t]

/-- The scalar of the layer, from its four weight vectors. -/
def lambda (q1 k1 q2 k2 : S64.Idx → Elt Ideal .f32) : EReal :=
  Ideal.exp (∑ d : Fin 64, q1 (ix1 d) * k1 (ix1 d)) - Ideal.exp (∑ d : Fin 64, q2 (ix1 d) * k2 (ix1 d)) + Ideal.ofBits .f32 0x3E4CCCCD#32

/-- The staged scalar. -/
theorem iblk_l (c : Dev nD) (t : Fin cfg0.N) (e : Fin 128) :
    iblk m c 0 t (ix2 0 e) = lambda (m ((c : Thread nD τ).loc main_arg3)) (m ((c : Thread nD τ).loc main_arg4)) (m ((c : Thread nD τ).loc main_arg5)) (m ((c : Thread nD τ).loc main_arg6)) := by
  blk_simp [iblk]
  unfold V
  after_reads_at
  rfl

/-- The staged gain. -/
theorem iblk_g (c : Dev nD) (t : Fin cfg0.N) (e : Fin 128) :
    iblk m c 1 t (ix2 0 e) = m ((c : Thread nD τ).loc main_arg7) (ix1 e) := by
  blk_simp [iblk]
  unfold V
  after_reads_at
  show m (c, Proc.tc.devRef main_arg7) _ = m (c, Proc.tc.devRef main_arg7) (ix1 e)
  blk_ext [index_g t]

/-- A sum over 128 lanes is the sum over its two halves. -/
theorem sum_halves (f : Fin 128 → EReal) : ∑ d, f d = ∑ d : Fin 64, f (lane 0 d) + ∑ d : Fin 64, f (lane 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · simp [lane]
  · simp [lane, Nat.add_comm]

theorem lane_zero_lt (d : Fin 64) : (lane 0 d).val < 64 := by simp [lane]
theorem lane_one_ge (d : Fin 64) : ¬ (lane 1 d).val < 64 := by simp [lane]

/-- A sum over 128 lanes of which only the first 64 count. -/
theorem sum_first (f g : Fin 128 → EReal) : ∑ d, (if d.val < 64 then f d else 0) * g d = ∑ d : Fin 64, f (lane 0 d) * g (lane 0 d) := by
  rw [sum_halves]
  simp only [lane_zero_lt, lane_one_ge, if_true, if_false, zero_mul, Finset.sum_const_zero, add_zero]

/-- A sum over 128 lanes of which only the last 64 count. -/
theorem sum_last (f g : Fin 128 → EReal) : ∑ d, (if d.val < 64 then 0 else f d) * g d = ∑ d : Fin 64, f (lane 1 d) * g (lane 1 d) := by
  rw [sum_halves]
  simp only [lane_zero_lt, lane_one_ge, if_true, if_false, zero_mul, Finset.sum_const_zero, zero_add]

/-- The score inside a grid point is the score of the layer, first half … -/
theorem score_zero (c : Dev nD) (t : Fin cfg0.N) (r : Fin 128) :
    score (grid0.coords t) (k0_pay76 (iblk m c 2 t)) (iblk m c 3 t) r
      = headScore (m ((c : Thread nD τ).loc main_arg0)) (m ((c : Thread nD τ).loc main_arg1)) (grid0.coords t 0) (grid0.coords t 1) 0 (128 * (grid0.coords t 2).val + r.val) := by
  funext n
  unfold score headScore
  simp only [half_zero, iblk_q, iblk_k, sum_first]

/-- … and second half. -/
theorem score_one (c : Dev nD) (t : Fin cfg0.N) (r : Fin 128) :
    score (grid0.coords t) (k0_pay77 (iblk m c 2 t)) (iblk m c 3 t) r
      = headScore (m ((c : Thread nD τ).loc main_arg0)) (m ((c : Thread nD τ).loc main_arg1)) (grid0.coords t 0) (grid0.coords t 1) 1 (128 * (grid0.coords t 2).val + r.val) := by
  funext n
  unfold score headScore
  simp only [half_one, iblk_q, iblk_k, sum_last]

/-- The result of the call at batch `b`, position `s` and column `e` of head `h`. -/
theorem callOut_at (Q K V : S4x8192x512.Idx → Elt Ideal .bf16) (lam : EReal) (g : Fin 128 → EReal) (b h : Fin 4) (s : Fin 8192) (e : Fin 128)
    (hc : 128 * h.val + e.val < 512) :
    callOut Q K V lam g (ix3 b s ⟨128 * h.val + e.val, hc⟩) = normed (headOut Q K V lam b h s.val) g e := by
  have hh : (128 * h.val + e.val) / 128 = h.val := by omega
  have he : (128 * h.val + e.val) % 128 = e.val := by omega
  exact congrArg₂ (fun H E => normed (headOut Q K V lam b H s.val) g E) (Fin.ext hh) (Fin.ext he)

set_option maxHeartbeats 2000000 in
/-- The result array of the call. -/
theorem array_eq (c : Dev nD) : (dats m 0 c).arrAt 5 cfg0.N
    = callOut (m ((c : Thread nD τ).loc main_arg0)) (m ((c : Thread nD τ).loc main_arg1)) (m ((c : Thread nD τ).loc main_arg2))
        (lambda (m ((c : Thread nD τ).loc main_arg3)) (m ((c : Thread nD τ).loc main_arg4)) (m ((c : Thread nD τ).loc main_arg5)) (m ((c : Thread nD τ).loc main_arg6)))
        (fun e => m ((c : Thread nD τ).loc main_arg7) (ix1 e)) := by
  refine (dats m 0 c).arrAt_eq_of_covers 5 _ (by decide +kernel) fun t _ y => ?_
  blk_simp
  rw [after0_5]
  obtain ⟨z, r, e, rfl⟩ : ∃ (z : Fin 1) (r e : Fin 128), y = ix3 z r e := ⟨y 0, y 1, y 2, by funext a; fin_cases a <;> rfl⟩
  obtain rfl : z = 0 := Subsingleton.elim _ _
  have hb : (grid0.coords t 2).val < 64 := (grid0.coords t 2).isLt
  have hy : (win0_5.blk t).view.emb (ix3 0 r e) = ix3 (grid0.coords t 0) ⟨128 * (grid0.coords t 2).val + r.val, by omega⟩ ⟨128 * (grid0.coords t 1).val + e.val, by have := (grid0.coords t 1).isLt; change (grid0.coords t 1).val < 4 at this; omega⟩ := by
    blk_ext [index_o t]
  rw [hy]
  unfold outsAt0
  rw [block]
  simp only [score_zero, score_one, iblk_v, iblk_l, iblk_g]
  refine Eq.trans ?_ (callOut_at _ _ _ _ _ (grid0.coords t 0) (grid0.coords t 1) ⟨128 * (grid0.coords t 2).val + r.val, by omega⟩ e _).symm
  unfold headOut
  rfl

end Cert.KernelIdeal.Attn
end
-- ==== Proof.RefValue.lean ====
/-
  WHAT THE REFERENCE COMPUTES. Its result is cut at its natural joints (the chunk numbers, the mask, the heads of an
  array, the masked scores of one half, the softmax, the mixed attention, the norm), and each part is read at an index.
-/
module

public import proofs.«01_k».proof.Proof.Array
public import proofs.«01_k».proof.Proof.Gen.ReferenceIdeal.Run
public import Idealize.ShloMosaic.Lib.Pointwise
public import Idealize.ShloMosaic.Lib.Tactic.CleanTypes
public import Idealize.ShloMosaic.Lib.Tactic.WordOmega

@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.Online
open Cert.KernelIdeal.Attn (act lane)

/-- The chunk number of every position: the floor division by 64, on words. -/
def chunks : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

theorem chunks_at (n : Fin 8192) : chunks (ix1 n) = BitVec.ofNat 32 (n.val / 64) := by
  unfold chunks
  pointwise
  dsimp only [id, constantI]
  revert n
  decide +kernel

/-- The mask: a key is seen when its chunk is not after the query's. -/
def mask : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

theorem mask_at (s x : Fin 8192) : mask (ix2 s x) = 1#1 ↔ x.val / 64 ≤ s.val / 64 := by
  unfold mask
  pointwise [chunks_at]
  have h1 : (BitVec.ofNat 32 (x.val / 64)).toNat = x.val / 64 := by rw [BitVec.toNat_ofNat, Nat.mod_eq_of_lt (by omega)]
  have h2 : (BitVec.ofNat 32 (s.val / 64)).toNat = s.val / 64 := by rw [BitVec.toNat_ofNat, Nat.mod_eq_of_lt (by omega)]
  have hx : x.val / 64 < 128 := by omega
  have hs : s.val / 64 < 128 := by omega
  rw [← h1] at hx ⊢
  rw [← h2] at hs ⊢
  generalize BitVec.ofNat 32 (x.val / 64) = p at *
  generalize BitVec.ofNat 32 (s.val / 64) = q at *
  word_omega

/-- An activation array with its heads apart. -/
def heads (X : FVec Ideal S4x8192x512 .bf16) : FVec Ideal S4x8192x4x128 .f32 :=
  shapeCast _ (extf .f32 X bitsLt_bf16_f32) shapeCasts_S4x8192x512_S4x8192x4x128

theorem heads_at (X : FVec Ideal S4x8192x512 .bf16) (b h : Fin 4) (s : Fin 8192) (e : Fin 128) : heads X (ix4 b s h e) = act X b h s.val e := by
  unfold heads act
  pointwise
  have hs : s.val % 8192 = s.val := Nat.mod_eq_of_lt s.isLt
  refine congrArg X ?_
  funext a
  fin_cases a
  · rfl
  · exact Fin.ext hs.symm
  · exact Fin.ext (by show _ * 128 + _ = 128 * _ + _; omega)

/-- The masked scores of two arrays of half heads. -/
def scores (A B : FVec Ideal S4x8192x4x64 .f32) : FVec Ideal S4x4x8192x8192 .f32 :=
  select (broadcastInDim S4x4x8192x8192 ![0, 1, 2, 3] bcast_S1x1x8192x8192_S4x4x8192x8192_0_1_2_3 (broadcastInDim S1x1x8192x8192 ![2, 3] bcast_S8192x8192_S1x1x8192x8192_2_3 mask))
    (Host.dotGeneral dot_S4x8192x4x64_S4x8192x4x64_S4x4x8192x8192_3_3_1_1_02_02 none A B)
    (broadcastInDim S4x4x8192x8192 ![] bcast_S_S4x4x8192x8192 (id (constant S_ .f32 0xFF800000#32)))

theorem scores_at (A B : FVec Ideal S4x8192x4x64 .f32) (b h : Fin 4) (s x : Fin 8192) :
    scores A B (ix4 b h s x) = if x.val / 64 ≤ s.val / 64 then ∑ d : Fin 64, A (ix4 b s h d) * B (ix4 b x h d) else ⊥ := by
  unfold scores
  pointwise [id, Cert.KernelIdeal.Attn.ofBits_negInf]
  by_cases hc : x.val / 64 ≤ s.val / 64
  · rw [if_pos hc]
    exact if_pos ((mask_at s x).mpr hc)
  · rw [if_neg hc]
    exact if_neg fun h => hc ((mask_at s x).mp h)

/-- The first half of every head, and the second. -/
def first (A : FVec Ideal S4x8192x4x128 .f32) : FVec Ideal S4x8192x4x64 .f32 :=
  extractStridedSlice S4x8192x4x64 ![0, 0, 0, 0] A slices_S4x8192x4x128_S4x8192x4x64_0_0_0_0
def second (A : FVec Ideal S4x8192x4x128 .f32) : FVec Ideal S4x8192x4x64 .f32 :=
  extractStridedSlice S4x8192x4x64 ![0, 0, 0, 64] A slices_S4x8192x4x128_S4x8192x4x64_0_0_0_64

theorem first_at (A : FVec Ideal S4x8192x4x128 .f32) (b h : Fin 4) (s : Fin 8192) (d : Fin 64) : first A (ix4 b s h d) = A (ix4 b s h (lane 0 d)) := by
  unfold first
  pointwise
  refine congrArg (fun y => A (ix4 b s h y)) (Fin.ext ?_)
  simp [lane]

theorem second_at (A : FVec Ideal S4x8192x4x128 .f32) (b h : Fin 4) (s : Fin 8192) (d : Fin 64) : second A (ix4 b s h d) = A (ix4 b s h (lane 1 d)) := by
  unfold second
  pointwise
  refine congrArg (fun y => A (ix4 b s h y)) (Fin.ext ?_)
  simp [lane]

/-- The exponentials of a row of scores, after its maximum is taken off. -/
def exps (S : FVec Ideal S4x4x8192x8192 .f32) : FVec Ideal S4x4x8192x8192 .f32 :=
  Host.exp (subf S (broadcastInDim S4x4x8192x8192 ![0, 1, 2, 3] bcast_S4x4x8192x1_S4x4x8192x8192_0_1_2_3 (broadcastInDim S4x4x8192x1 ![0, 1, 2] bcast_S4x4x8192_S4x4x8192x1_0_1_2
    (maximumf (broadcastInDim S4x4x8192 ![] bcast_S_S4x4x8192 (constant S_ .f32 0xFF800000#32)) (Host.reduce FloatOps.maximumf S (constant S_ .f32 0xFF800000#32) reducesTo_S4x4x8192x8192_S4x4x8192_d3 h_S_)))))

/-- The softmax over the keys. -/
def probs (S : FVec Ideal S4x4x8192x8192 .f32) : FVec Ideal S4x4x8192x8192 .f32 :=
  Host.divf (exps S) (broadcastInDim S4x4x8192x8192 ![0, 1, 2, 3] bcast_S4x4x8192x1_S4x4x8192x8192_0_1_2_3 (broadcastInDim S4x4x8192x1 ![0, 1, 2] bcast_S4x4x8192_S4x4x8192x1_0_1_2
    (Host.reduceAdd (exps S) (constant S_ .f32 0x00000000#32) reducesTo_S4x4x8192x8192_S4x4x8192_d3 h_S_)))

/-- The maximum of a row of scores, as the step over all keys at once. -/
theorem max_row (S : ℕ → EReal) (n : ℕ) : (Finset.univ.fold max ⊥ fun x : Fin n => S x.val) = top S n := by
  have h := top_step S 0 n
  simp only [Nat.zero_add] at h
  rw [← h]
  exact (max_eq_right bot_le).symm

/-- The maximum over the last axis at an index, where the row there is `S`. -/
theorem max_last {a b c n : ℕ} {u : Shape} (h : (⟨4, ![a, b, c, n]⟩ : Shape).ReducesTo [3] ⟨3, ![a, b, c]⟩) (hu : 0 < u.numel) (P : FVec Ideal ⟨4, ![a, b, c, n]⟩ .f32) (z : FVec Ideal u .f32)
    (i : Fin a) (j : Fin b) (k : Fin c) (S : ℕ → EReal) (hz : ∀ i, z i = ⊥) (hS : ∀ x : Fin n, P (ix4 i j k x) = S x.val) :
    Host.reduce FloatOps.maximumf P z h hu (ix3 i j k) = top S n := by
  pointwise [hz, hS]
  exact max_row S n

/-- The maximum of a row of the scores. -/
theorem rowMax_at (P : FVec Ideal S4x4x8192x8192 .f32) (S : ℕ → EReal) (b h : Fin 4) (s : Fin 8192) (hS : ∀ x : Fin 8192, P (ix4 b h s x) = S x.val) :
    Host.reduce FloatOps.maximumf P (constant S_ .f32 0xFF800000#32) reducesTo_S4x4x8192x8192_S4x4x8192_d3 h_S_ (ix3 b h s) = top S 8192 :=
  max_last reducesTo_S4x4x8192x8192_S4x4x8192_d3 h_S_ P (constant S_ .f32 0xFF800000#32) b h s S (fun _ => Cert.KernelIdeal.Attn.ofBits_negInf) hS

/-- The exponentials at an index, whatever is taken off. -/
theorem exp_off_at (P : FVec Ideal S4x4x8192x8192 .f32) (M : FVec Ideal S4x4x8192 .f32) (b h : Fin 4) (s x : Fin 8192) :
    Host.exp (subf P (broadcastInDim S4x4x8192x8192 ![0, 1, 2, 3] bcast_S4x4x8192x1_S4x4x8192x8192_0_1_2_3 (broadcastInDim S4x4x8192x1 ![0, 1, 2] bcast_S4x4x8192_S4x4x8192x1_0_1_2
      (maximumf (broadcastInDim S4x4x8192 ![] bcast_S_S4x4x8192 (constant S_ .f32 0xFF800000#32)) M)))) (ix4 b h s x) = Ideal.exp (P (ix4 b h s x) - max ⊥ (M (ix3 b h s))) := by
  pointwise [Cert.KernelIdeal.Attn.ofBits_negInf]

/-- Where a row of scores is `S`, its exponentials are the weights of `S`. -/
theorem exps_at (P : FVec Ideal S4x4x8192x8192 .f32) (S : ℕ → EReal) (b h : Fin 4) (s : Fin 8192) (hS : ∀ x : Fin 8192, P (ix4 b h s x) = S x.val) (x : Fin 8192) :
    exps P (ix4 b h s x) = weight S (top S 8192) x.val := by
  unfold exps
  rw [exp_off_at, rowMax_at P S b h s hS, hS, max_eq_right bot_le]
  rfl

theorem probs_at (P : FVec Ideal S4x4x8192x8192 .f32) (S : ℕ → EReal) (b h : Fin 4) (s : Fin 8192) (hS : ∀ x : Fin 8192, P (ix4 b h s x) = S x.val) (x : Fin 8192) :
    probs P (ix4 b h s x) = Ideal.div (weight S (top S 8192) x.val) (mass S 8192) := by
  unfold probs
  pointwise [exps_at P S b h s hS]
  unfold mass
  rw [Finset.sum_range]

/-- The factor between the two attentions. -/
def factor (q1 k1 q2 k2 : FVec Ideal S64 .f32) : FVec Ideal S_ .f32 :=
  addf (subf (Host.exp (Host.reduceAdd (mulf q1 k1) (constant S_ .f32 0x00000000#32) reducesTo_S64_S_d0 h_S_)) (Host.exp (Host.reduceAdd (mulf q2 k2) (constant S_ .f32 0x00000000#32) reducesTo_S64_S_d0 h_S_))) (constant S_ .f32 0x3E4CCCCD#32)

theorem factor_at (q1 k1 q2 k2 : FVec Ideal S64 .f32) : factor q1 k1 q2 k2 ix0 = Cert.KernelIdeal.Attn.lambda q1 k1 q2 k2 := by
  unfold factor Cert.KernelIdeal.Attn.lambda
  pointwise

/-- The values, mixed with the difference of the two softmaxes. -/
def mixedOut (V : FVec Ideal S4x8192x4x128 .f32) (P0 P1 : FVec Ideal S4x4x8192x8192 .f32) (lam : FVec Ideal S_ .f32) : FVec Ideal S4x8192x4x128 .f32 :=
  transpose S4x8192x4x128 [0, 3, 1, 2] (Host.dotGeneral dot_S4x8192x4x128_S4x4x8192x8192_S4x4x128x8192_1_3_3_2_02_01 none V
    (subf P0 (mulf (broadcastInDim S4x4x8192x8192 ![] bcast_S_S4x4x8192x8192 lam) P1))) transposes_S4x4x128x8192_S4x8192x4x128_0_3_1_2

theorem mixedOut_at (V : FVec Ideal S4x8192x4x128 .f32) (P0 P1 : FVec Ideal S4x4x8192x8192 .f32) (lam : FVec Ideal S_ .f32) (b h : Fin 4) (s : Fin 8192) (e : Fin 128) :
    mixedOut V P0 P1 lam (ix4 b s h e) = ∑ x : Fin 8192, V (ix4 b x h e) * (P0 (ix4 b h s x) - lam ix0 * P1 (ix4 b h s x)) := by
  unfold mixedOut
  pointwise

/-- The norm over a head's columns with its gain and the layer's factor, in the result's layout. -/
def normOut (O : FVec Ideal S4x8192x4x128 .f32) (g : FVec Ideal S128 .f32) : FVec Ideal S4x8192x512 .bf16 :=
  truncf .bf16 (shapeCast _ (mulf (mulf (mulf O (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2
    (Host.reduceAdd (mulf O O) (constant S_ .f32 0x00000000#32) reducesTo_S4x8192x4x128_S4x8192x4_d3 h_S_)) (broadcastInDim S4x8192x4x1 ![] bcast_S_S4x8192x4x1 (constant S_ .f32 0x43000000#32)))
    (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 g)))
    (broadcastInDim S4x8192x4x128 ![] bcast_S_S4x8192x4x128 (constant S_ .f32 0x3F4CCCCD#32))) shapeCasts_S4x8192x4x128_S4x8192x512) bitsLt_bf16_f32

theorem normOut_at (O : FVec Ideal S4x8192x4x128 .f32) (g : FVec Ideal S128 .f32) (y : S4x8192x512.Idx) :
    normOut O g y = Cert.KernelIdeal.Attn.normed (fun e => O (ix4 (y 0) (y 1) ⟨(y 2).val / 128, by have := (y 2).isLt; change (y 2).val < 512 at this; omega⟩ e)) (fun e => g (ix1 e)) ⟨(y 2).val % 128, Nat.mod_lt _ (by decide)⟩ := by
  unfold normOut Cert.KernelIdeal.Attn.normed
  pointwise

/-- The reference's result is the composition of these parts. -/
theorem res_parts (m : (ℓ : Loc nD τ sig) → Buf (Elt Ideal) ℓ) (c : Dev nD) :
    Value.res_out0 m c = normOut (mixedOut (heads (m ((c.tc : Thread nD τ).loc main_arg2)))
      (probs (scores (first (heads (m ((c.tc : Thread nD τ).loc main_arg0)))) (first (heads (m ((c.tc : Thread nD τ).loc main_arg1))))))
      (probs (scores (second (heads (m ((c.tc : Thread nD τ).loc main_arg0)))) (second (heads (m ((c.tc : Thread nD τ).loc main_arg1))))))
      (factor (m ((c.tc : Thread nD τ).loc main_arg3)) (m ((c.tc : Thread nD τ).loc main_arg4)) (m ((c.tc : Thread nD τ).loc main_arg5)) (m ((c.tc : Thread nD τ).loc main_arg6))))
      (m ((c.tc : Thread nD τ).loc main_arg7)) := by
  show Value.res_main_v75 m c = _
  unfold Value.res_main_v75 normOut mixedOut heads probs exps scores first second factor mask chunks
  rfl

end Cert.ReferenceIdeal.Attn
end
-- ==== Proof.Equation.lean ====
/-
  THE EQUATION. With finite queries, keys, values and mixing vectors, the reference's result is the result of the call:
  every row has a visible key, so both quotients are real, and the mixing may be done before or after the products.
-/
module

public import proofs.«01_k».proof.Proof.RefValue
public import proofs.«01_k».proof.Pre_finite
public import Idealize.ShloMosaic.Lib.ReduceAll
public import Idealize.ShloMosaic.Lib.Affine

@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.Online
open Cert.KernelIdeal.Attn (act lane lambda headScore headOut callOut diffOut normed)

/-- An element below +∞ in absolute value is real. -/
theorem real_of_abs_lt {x : EReal} (h : FloatOps.cmpf (F := Ideal) (φ := .f32) .olt (max x (-x)) (Ideal.ofBits .f32 0x7F800000#32) = 1#1) : ∃ r : ℝ, x = r := by
  have htop : Ideal.ofBits .f32 0x7F800000#32 = (⊤ : EReal) := by simp [Ideal.ofBits, Ideal.ieee]
  rw [htop] at h
  induction x with
  | bot => exact absurd h (by show ¬ Ideal.cmp .olt _ _ = 1#1; simp [Ideal.cmp])
  | top => exact absurd h (by show ¬ Ideal.cmp .olt _ _ = 1#1; simp [Ideal.cmp])
  | coe r => exact ⟨r, rfl⟩

/-- Where `all (abs x < inf)` holds, every element of `x` is real. -/
theorem real_of_all {s : Shape} {axes : List (Fin s.rank)} (x : FVec Ideal s .f32) (hb : S_.BroadcastsInDim s (![] : Fin 0 → Fin s.rank)) (h : s.ReducesTo axes S_) (hu : 0 < S_.numel)
    (e : Host.reduce IntOp.andi (cmpf .olt (Host.absf x) (broadcastInDim s ![] hb (constant S_ .f32 0x7F800000#32))) (constantI S_ 1 1#1) h hu ix0 = 1#1) (i : s.Idx) :
    ∃ r : ℝ, x i = r :=
  haveI : Subsingleton S_.Idx := ⟨fun a b => funext fun k => k.elim0⟩
  real_of_abs_lt (Host.reduce_andi_all _ _ h hu ix0 e i)

/-- What the precondition says of the arguments. -/
theorem finite_args [Cert.Pre_finite.Facts] (Q K V : FVec Ideal S4x8192x512 .bf16) (q1 k1 q2 k2 : FVec Ideal S64 .f32) (g : FVec Ideal S128 .f32)
    (e : Cert.Pre_finite.fn (F := Ideal) Q K V q1 k1 q2 k2 g = fun _ => 1#1) :
    (∀ i, ∃ r : ℝ, (Q i : EReal) = r) ∧ (∀ i, ∃ r : ℝ, (K i : EReal) = r) ∧ (∀ i, ∃ r : ℝ, (V i : EReal) = r)
      ∧ (∀ i, ∃ r : ℝ, (q1 i : EReal) = r) ∧ (∀ i, ∃ r : ℝ, (k1 i : EReal) = r) ∧ (∀ i, ∃ r : ℝ, (q2 i : EReal) = r) ∧ (∀ i, ∃ r : ℝ, (k2 i : EReal) = r) := by
  have e0 := congrFun e ix0
  unfold Cert.Pre_finite.fn Cert.Pre_finite.fn_part1 Cert.Pre_finite.fn_part2 at e0
  dsimp only [andi] at e0
  simp only [IntOp.andi_eq_one] at e0
  obtain ⟨⟨⟨⟨⟨⟨h0, h1⟩, h2⟩, h3⟩, h4⟩, h5⟩, h6⟩ := e0
  have big := fun (X : FVec Ideal S4x8192x512 .f32) => real_of_all X Cert.Pre_finite.Facts.bcast_S_S4x8192x512 Cert.Pre_finite.Facts.reducesTo_S4x8192x512_S_d0_1_2 Cert.Pre_finite.Facts.h_S_
  have small := fun (X : FVec Ideal S64 .f32) => real_of_all X Cert.Pre_finite.Facts.bcast_S_S64 Cert.Pre_finite.Facts.reducesTo_S64_S_d0 Cert.Pre_finite.Facts.h_S_
  exact ⟨big _ h0, big _ h1, big _ h2, small _ h3, small _ h4, small _ h5, small _ h6⟩

/-- A sum of products of reals is real. -/
theorem real_sum {n : ℕ} (a b : Fin n → EReal) (ha : ∀ d, ∃ r : ℝ, a d = r) (hb : ∀ d, ∃ r : ℝ, b d = r) : ∃ r : ℝ, ∑ d, a d * b d = r := by
  choose f hf using ha
  choose g hg using hb
  exact ⟨∑ d, f d * g d, by rw [coe_sum]; exact Finset.sum_congr rfl fun d _ => by rw [hf, hg, EReal.coe_mul]⟩

/-- The mixing factor is real. -/
theorem real_lambda (q1 k1 q2 k2 : FVec Ideal S64 .f32) (h1 : ∀ i, ∃ r : ℝ, (q1 i : EReal) = r) (h2 : ∀ i, ∃ r : ℝ, (k1 i : EReal) = r)
    (h3 : ∀ i, ∃ r : ℝ, (q2 i : EReal) = r) (h4 : ∀ i, ∃ r : ℝ, (k2 i : EReal) = r) : ∃ r : ℝ, lambda q1 k1 q2 k2 = r := by
  obtain ⟨a, ha⟩ := real_sum (fun d : Fin 64 => q1 (ix1 d)) (fun d => k1 (ix1 d)) (fun d => h1 _) (fun d => h2 _)
  obtain ⟨b, hb⟩ := real_sum (fun d : Fin 64 => q2 (ix1 d)) (fun d => k2 (ix1 d)) (fun d => h3 _) (fun d => h4 _)
  obtain ⟨z, hz⟩ : ∃ z : ℝ, Ideal.ofBits .f32 0x3E4CCCCD#32 = (z : EReal) := ⟨_, by simp [Ideal.ofBits, Ideal.ieee]; rfl⟩
  refine ⟨Real.exp a - Real.exp b + z, ?_⟩
  unfold Cert.KernelIdeal.Attn.lambda
  rw [ha, hb, hz, exp_coe, exp_coe, EReal.coe_add, EReal.coe_sub]

/-- A score is never +∞, and the first key is always seen. -/
theorem score_ne_top (Q K : FVec Ideal S4x8192x512 .bf16) (hQ : ∀ i, ∃ r : ℝ, (Q i : EReal) = r) (hK : ∀ i, ∃ r : ℝ, (K i : EReal) = r) (b h : Fin 4) (p : Fin 2) (s n : ℕ) :
    headScore Q K b h p s n ≠ ⊤ := by
  unfold Cert.KernelIdeal.Attn.headScore
  split
  · obtain ⟨r, hr⟩ := real_sum (fun d : Fin 64 => act Q b h s (lane p d)) (fun d => act K b h n (lane p d)) (fun d => hQ _) (fun d => hK _)
    rw [hr]; exact EReal.coe_ne_top r
  · exact bot_ne_top

theorem score_zero_ne_bot (Q K : FVec Ideal S4x8192x512 .bf16) (hQ : ∀ i, ∃ r : ℝ, (Q i : EReal) = r) (hK : ∀ i, ∃ r : ℝ, (K i : EReal) = r) (b h : Fin 4) (p : Fin 2) (s : ℕ) :
    headScore Q K b h p s 0 ≠ ⊥ := by
  unfold Cert.KernelIdeal.Attn.headScore
  rw [if_pos (by omega)]
  obtain ⟨r, hr⟩ := real_sum (fun d : Fin 64 => act Q b h s (lane p d)) (fun d => act K b h 0 (lane p d)) (fun d => hQ _) (fun d => hK _)
  rw [hr]; exact EReal.coe_ne_bot r

/-- The reference's scores are the scores of the call: first half of every head, and second. -/
theorem first_scores (Q K : FVec Ideal S4x8192x512 .bf16) (b h : Fin 4) (s x : Fin 8192) :
    scores (first (heads Q)) (first (heads K)) (ix4 b h s x) = headScore Q K b h 0 s.val x.val := by
  unfold Cert.KernelIdeal.Attn.headScore
  simp only [scores_at, first_at, heads_at]

theorem second_scores (Q K : FVec Ideal S4x8192x512 .bf16) (b h : Fin 4) (s x : Fin 8192) :
    scores (second (heads Q)) (second (heads K)) (ix4 b h s x) = headScore Q K b h 1 s.val x.val := by
  unfold Cert.KernelIdeal.Attn.headScore
  simp only [scores_at, second_at, heads_at]

/-- With finite arguments the reference's mixed attention is the call's. -/
theorem mixed_heads (Q K V : FVec Ideal S4x8192x512 .bf16) (lam : FVec Ideal S_ .f32) (hQ : ∀ i, ∃ r : ℝ, (Q i : EReal) = r) (hK : ∀ i, ∃ r : ℝ, (K i : EReal) = r) (hV : ∀ i, ∃ r : ℝ, (V i : EReal) = r)
    (hl : ∃ r : ℝ, (lam ix0 : EReal) = r) (b h : Fin 4) (s : Fin 8192) (e : Fin 128) :
    mixedOut (heads V) (probs (scores (first (heads Q)) (first (heads K)))) (probs (scores (second (heads Q)) (second (heads K)))) lam (ix4 b s h e)
      = headOut Q K V (lam ix0) b h s.val e := by
  rw [mixedOut_at]
  unfold Cert.KernelIdeal.Attn.headOut Cert.KernelIdeal.Attn.diffOut
  rw [mixed_eq (v := fun n => act V b h n e) (n := 8192) (i := 0) (j := 0) (by decide) (score_zero_ne_bot Q K hQ hK b h 0 s.val) (fun k _ => score_ne_top Q K hQ hK b h 0 s.val k) (by decide)
    (score_zero_ne_bot Q K hQ hK b h 1 s.val) (fun k _ => score_ne_top Q K hQ hK b h 1 s.val k) (fun k _ => hV _) hl, Finset.sum_range]
  refine Finset.sum_congr rfl fun x _ => ?_
  rw [heads_at, probs_at _ _ b h s (first_scores Q K b h s), probs_at _ _ b h s (second_scores Q K b h s)]

/-- The reference's result is the call's result. -/
theorem res_eq (m : (ℓ : Loc nD τ sig) → Buf (Elt Ideal) ℓ) (c : Dev nD) [Cert.Pre_finite.Facts]
    (e : Cert.Pre_finite.fn (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) = fun _ => 1#1) :
    Value.res_out0 m c = callOut (m ((c.tc : Thread nD τ).loc main_arg0)) (m ((c.tc : Thread nD τ).loc main_arg1)) (m ((c.tc : Thread nD τ).loc main_arg2))
      (lambda (m ((c.tc : Thread nD τ).loc main_arg3)) (m ((c.tc : Thread nD τ).loc main_arg4)) (m ((c.tc : Thread nD τ).loc main_arg5)) (m ((c.tc : Thread nD τ).loc main_arg6)))
      (fun e => m ((c.tc : Thread nD τ).loc main_arg7) (ix1 e)) := by
  obtain ⟨hQ, hK, hV, h3, h4, h5, h6⟩ := finite_args _ _ _ _ _ _ _ _ e
  rw [res_parts]
  funext y
  rw [normOut_at]
  unfold Cert.KernelIdeal.Attn.callOut
  refine congrArg (fun f => normed f _ _) (funext fun e => ?_)
  refine (mixed_heads _ _ _ _ hQ hK hV (by rw [factor_at]; exact real_lambda _ _ _ _ h3 h4 h5 h6) (y 0) _ (y 1) e).trans ?_
  rw [factor_at]

end Cert.ReferenceIdeal.Attn
end
-- ==== Proof.Norm.lean ====
/-
  ROWS OF THE LAYER. An activation array of 4 x 8192 positions read as 32768 rows, and the norm of a row of 1024 columns.
-/
module

public import Idealize.ShloMosaic.Lib.Pointwise

@[expose] public section
noncomputable section
open Idealize.ShloMosaic
namespace Cert.Rows

/-- Row `r` of an activation array: position `r % 8192` of batch `r / 8192`. -/
def row {α : Type} {n : ℕ} (X : (⟨3, ![4, 8192, n]⟩ : Shape).Idx → α) (r : Fin 32768) (d : Fin n) : α :=
  X (ix3 ⟨r.val / 8192, by omega⟩ ⟨r.val % 8192, Nat.mod_lt _ (by decide)⟩ d)

/-- A row divided by the root of its mean square, times the gain. -/
def rowNorm (f g : Fin 1024 → EReal) (d : Fin 1024) : EReal :=
  f d * Ideal.rsqrt (Ideal.div (∑ x, f x * f x) (Ideal.ofBits .f32 0x44800000#32) + Ideal.ofBits .f32 0x358637BD#32) * g d

/-- An array of 32768 rows and `n` columns, from its entries. -/
def entries {n : ℕ} (f : Fin 32768 → ℕ → EReal) : (⟨2, ![32768, n]⟩ : Shape).Idx → EReal := fun y => f (y 0) (y 1).val

/-- The entry of such an array. -/
theorem entries_at {n : ℕ} (f : Fin 32768 → ℕ → EReal) (r : Fin 32768) (e : Fin n) : entries f (ix2 r e) = f r e.val := rfl

/-- Entry (row, column) of the product of the normed rows and the weight of the input projection. -/
def zAt (X : (⟨3, ![4, 8192, 1024]⟩ : Shape).Idx → EReal) (g : (⟨1, ![1024]⟩ : Shape).Idx → EReal) (W : (⟨2, ![1024, 3140]⟩ : Shape).Idx → EReal)
    (r : Fin 32768) (c : ℕ) : EReal :=
  ∑ d : Fin 1024, rowNorm (row X r) (fun d => g (ix1 d)) d * W (ix2 d ⟨c % 3140, Nat.mod_lt _ (by decide)⟩)

/-- A row of 1024 columns from rows of 512, 256 and 256. -/
def joined (a : Fin 512 → EReal) (b c : Fin 256 → EReal) (e : Fin 1024) : EReal :=
  if h : e.val < 512 then a ⟨e.val, h⟩ else if h' : e.val - 512 < 256 then b ⟨e.val - 512, h'⟩ else c ⟨e.val - 512 - 256, by omega⟩

/-- A row, plus the product of the joined outputs of the three mixers with the output weight. -/
def mixed (x : Fin 1024 → EReal) (a : Fin 512 → EReal) (b c : Fin 256 → EReal) (W : (⟨2, ![1024, 1024]⟩ : Shape).Idx → EReal) (d : Fin 1024) : EReal :=
  x d + ∑ e : Fin 1024, joined a b c e * W (ix2 e d)

/-- A sum over 1024 columns, in three stretches. -/
theorem sum_stretches (f : Fin 1024 → EReal) :
    ∑ e, f e = ∑ e : Fin 512, f ⟨e.val, by omega⟩ + ∑ e : Fin 256, f ⟨512 + e.val, by omega⟩ + ∑ e : Fin 256, f ⟨768 + e.val, by omega⟩ := by
  refine (Fin.sum_univ_add (a := 768) (b := 256) f).trans (congrArg₂ (· + ·) ?_ rfl)
  exact Fin.sum_univ_add (a := 512) (b := 256) fun i : Fin 768 => f (Fin.castAdd 256 i)

/-- The product of a joined row, one stretch after the other. -/
theorem joined_sum (a : Fin 512 → EReal) (b c : Fin 256 → EReal) (w : Fin 1024 → EReal) :
    ∑ e, joined a b c e * w e
      = ∑ e : Fin 512, a e * w ⟨e.val, by omega⟩ + ∑ e : Fin 256, b e * w ⟨512 + e.val, by omega⟩ + ∑ e : Fin 256, c e * w ⟨768 + e.val, by omega⟩ := by
  rw [sum_stretches]
  refine congrArg₂ (· + ·) (congrArg₂ (· + ·) ?_ ?_) ?_
  · refine Finset.sum_congr rfl fun e _ => congrArg (· * w ⟨e.val, by omega⟩) ?_
    exact dif_pos e.isLt
  · refine Finset.sum_congr rfl fun e _ => congrArg (· * w ⟨512 + e.val, by omega⟩) ?_
    unfold joined
    rw [dif_neg (by dsimp only; omega), dif_pos (by dsimp only; omega)]
    exact congrArg b (Fin.ext (by dsimp only; omega))
  · refine Finset.sum_congr rfl fun e _ => congrArg (· * w ⟨768 + e.val, by omega⟩) ?_
    unfold joined
    rw [dif_neg (by dsimp only; omega), dif_neg (by dsimp only; omega)]
    exact congrArg c (Fin.ext (by dsimp only; omega))

/-- An array of 32768 rows of 1024 columns, from its rows. -/
def table (f : Fin 32768 → Fin 1024 → EReal) : (⟨2, ![32768, 1024]⟩ : Shape).Idx → EReal := fun y => f (y 0) (y 1)

/-- The entry of such an array. -/
theorem table_at (f : Fin 32768 → Fin 1024 → EReal) (r : Fin 32768) (e : Fin 1024) : table f (ix2 r e) = f r e := rfl

end Cert.Rows
end
-- ==== Proof.Proj.lean ====
/-
  THE INPUT PROJECTION, kernel side. Every output array of the call is a stretch of columns of one product: the normed rows of
  the activations times the weight, which the kernel takes with some columns repeated and some of zeros put in.
-/
module

public import proofs.«01_k».proof.Proof.Norm
public import proofs.«01_k».proof.Proof.Gen.Kernel2Ideal.Value
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.Kernel2Ideal.Proj
open Cert.Kernel2Ideal Cert.Kernel2Ideal.Gen Cert.Rows

/-- The product inside one grid step, at row `r` and column `c` of its block. -/
theorem product_at (x0 : Vec Ideal S512x1024 .f32) (x1 : Vec Ideal S1x1024 .f32) (x2 : Vec Ideal S1024x3328 .bf16) (r : Fin 512) (c : Fin 3328) :
    k0_pay9 x0 x1 x2 (ix2 r c) = ∑ d : Fin 1024, rowNorm (fun d => x0 (ix2 r d)) (fun d => x1 (ix2 0 d)) d * x2 (ix2 d c) := by
  unfold k0_pay9 rowNorm
  pointwise

/-- The weight as the kernel takes it: columns 0..2627 as they are, 60 columns of zeros, columns 2560..2623 twice, and the rest. -/
def padded (W : S1024x3140.Idx → EReal) (d : Fin 1024) (c : ℕ) : EReal :=
  if c < 2628 then W (ix2 d ⟨c % 3140, Nat.mod_lt _ (by decide)⟩)
  else if c < 2688 then 0
  else if c < 2752 then W (ix2 d ⟨(c - 2688 + 2560) % 3140, Nat.mod_lt _ (by decide)⟩)
  else if c < 2816 then W (ix2 d ⟨(c - 2752 + 2560) % 3140, Nat.mod_lt _ (by decide)⟩)
  else W (ix2 d ⟨(c - 2816 + 2628) % 3140, Nat.mod_lt _ (by decide)⟩)

variable (m : (ℓ : Loc nD τ sig) → Buf (Elt Ideal) ℓ)

/-- The rows staged at a grid step; the gain and the weight are staged whole. -/
theorem index_x : ∀ t : Fin cfg0.N, win0_0.index t = ![(grid0.coords t 0).val, 0] := by decide +kernel
theorem index_g : ∀ t : Fin cfg0.N, win0_1.index t = ![0, 0] := by decide +kernel
theorem index_w : ∀ t : Fin cfg0.N, win0_2.index t = ![0, 0] := by decide +kernel

/-- A staged row. -/
theorem iblk_x (c : Dev nD) (t : Fin cfg0.N) (r : Fin 512) (d : Fin 1024) (h : 512 * (grid0.coords t 0).val + r.val < 32768) :
    iblk m c 0 t (ix2 r d) = row (m ((c : Thread nD τ).loc main_arg0)) ⟨512 * (grid0.coords t 0).val + r.val, h⟩ d := by
  unfold row
  blk_simp [iblk]
  unfold V
  after_reads_at
  show m (c, Proc.tc.devRef main_arg0) _ = m (c, Proc.tc.devRef main_arg0) _
  blk_ext [index_x t]

/-- The staged gain. -/
theorem iblk_g (c : Dev nD) (t : Fin cfg0.N) (d : Fin 1024) :
    iblk m c 1 t (ix2 0 d) = m ((c : Thread nD τ).loc main_arg1) (ix1 d) := by
  blk_simp [iblk]
  unfold V
  after_reads_at
  show m (c, Proc.tc.devRef main_arg1) _ = m (c, Proc.tc.devRef main_arg1) (ix1 d)
  blk_ext [index_g t]

/-- The weight array that the host code hands to the call. -/
theorem weight_at (c : Dev nD) (d : Fin 1024) (e : Fin 3328) :
    V m c main_v5 (ix2 d e) = padded (m ((c : Thread nD τ).loc main_arg2)) d e.val := by
  unfold padded
  unfold V
  after_reads_at
  by_cases a : e.val < 2628
  · rw [dif_pos a, if_pos a]
    after_reads_at
    exact congrArg (fun z => m (c, Proc.tc.devRef main_arg2) (ix2 d z)) (Fin.ext (by dsimp only; omega))
  rw [dif_neg a, if_neg a]
  by_cases b : e.val < 2688
  · rw [dif_pos (by omega), if_pos b]
    after_reads_at
  rw [dif_neg (by omega), if_neg b]
  by_cases b2 : e.val < 2752
  · rw [dif_pos (by omega), if_pos b2]
    after_reads_at
    exact congrArg (fun z => m (c, Proc.tc.devRef main_arg2) (ix2 d z)) (Fin.ext (by dsimp only; omega))
  rw [dif_neg (by omega), if_neg b2]
  by_cases b3 : e.val < 2816
  · rw [dif_pos (by omega), if_pos b3]
    after_reads_at
    exact congrArg (fun z => m (c, Proc.tc.devRef main_arg2) (ix2 d z)) (Fin.ext (by dsimp only; omega))
  rw [dif_neg (by omega), if_neg b3]
  after_reads_at
  exact congrArg (fun z => m (c, Proc.tc.devRef main_arg2) (ix2 d z)) (Fin.ext (by dsimp only; omega))

/-- The staged weight. -/
theorem iblk_w (c : Dev nD) (t : Fin cfg0.N) (d : Fin 1024) (e : Fin 3328) :
    iblk m c 2 t (ix2 d e) = padded (m ((c : Thread nD τ).loc main_arg2)) d e.val := by
  rw [← weight_at]
  blk_ext [iblk, index_w t]

/-- Entry (row, column) of the product that the kernel forms, with the weight as it takes it. -/
def kAt (X : S4x8192x1024.Idx → EReal) (g : S1024.Idx → EReal) (W : S1024x3140.Idx → EReal) (r : Fin 32768) (e : ℕ) : EReal :=
  ∑ d : Fin 1024, rowNorm (row X r) (fun d => g (ix1 d)) d * padded W d e

variable (X : S4x8192x1024.Idx → EReal) (g : S1024.Idx → EReal) (W : S1024x3140.Idx → EReal) (r : Fin 32768)

/-- The first 2628 columns are those of the layer's product. -/
theorem kAt_low (e : ℕ) (h : e < 2628) : kAt X g W r e = zAt X g W r e := by
  unfold kAt padded zAt
  simp only [if_pos h]

/-- The columns of zeros. -/
theorem kAt_zero (e : ℕ) (h : 2628 ≤ e) (h' : e < 2688) : kAt X g W r e = 0 := by
  unfold kAt padded
  simp only [if_neg (Nat.not_lt.2 h), if_pos h', mul_zero, Finset.sum_const_zero]

/-- The columns of the index keys, twice. -/
theorem kAt_twice (e : ℕ) (h : e < 128) : kAt X g W r (2688 + e) = zAt X g W r (2560 + e % 64) := by
  unfold kAt padded zAt
  refine Finset.sum_congr rfl fun d _ => congrArg (rowNorm (row X r) (fun d => g (ix1 d)) d * ·) ?_
  rw [if_neg (by omega), if_neg (by omega)]
  by_cases b : 2688 + e < 2752
  · rw [if_pos b]
    exact congrArg (fun z => W (ix2 d z)) (Fin.ext (by dsimp only; omega))
  · rw [if_neg b, if_pos (by omega)]
    exact congrArg (fun z => W (ix2 d z)) (Fin.ext (by dsimp only; omega))

/-- The last columns. -/
theorem kAt_high (e : ℕ) : kAt X g W r (2816 + e) = zAt X g W r (2628 + e) := by
  unfold kAt padded zAt
  refine Finset.sum_congr rfl fun d _ => congrArg (rowNorm (row X r) (fun d => g (ix1 d)) d * ·) ?_
  rw [if_neg (by omega), if_neg (by omega), if_neg (by omega), if_neg (by omega)]
  exact congrArg (fun z => W (ix2 d z)) (Fin.ext (by dsimp only; omega))

/-- The product inside one grid step is the rows of that step of the whole product. -/
theorem block_at (c : Dev nD) (t : Fin cfg0.N) (r : Fin 512) (e : Fin 3328) (h : 512 * (grid0.coords t 0).val + r.val < 32768) :
    k0_pay9 (iblk m c 0 t) (iblk m c 1 t) (iblk m c 2 t) (ix2 r e)
      = kAt (m ((c : Thread nD τ).loc main_arg0)) (m ((c : Thread nD τ).loc main_arg1)) (m ((c : Thread nD τ).loc main_arg2)) ⟨512 * (grid0.coords t 0).val + r.val, h⟩ e.val := by
  rw [product_at]
  simp only [iblk_x m c t r _ h, iblk_g, iblk_w]
  rfl

end Cert.Kernel2Ideal.Proj
end
-- ==== Proof.ProjOut.lean ====
/-
  THE OUTPUT ARRAYS OF THE INPUT PROJECTION, kernel side: each as a stretch of columns of the layer's product.
-/
module

public import proofs.«01_k».proof.Proof.Proj

@[expose] public section
set_option maxRecDepth 16384
noncomputable section
open Idealize.ShloMosaic Idealize.ShloMosaic.TcCoe Idealize.SL.Sem
open Idealize.ShloMosaic.Pipeline (Dat)
namespace Cert.Kernel2Ideal.Proj
open Cert.Kernel2Ideal Cert.Kernel2Ideal.Gen Cert.Rows

variable (m : (ℓ : Loc nD τ sig) → Buf (Elt Ideal) ℓ)

/-- The product of the layer on the arguments of the call. -/
def layer (c : Dev nD) (r : Fin 32768) (e : ℕ) : EReal :=
  zAt (m ((c : Thread nD τ).loc main_arg0)) (m ((c : Thread nD τ).loc main_arg1)) (m ((c : Thread nD τ).loc main_arg2)) r e

/-- The output of the index keys and weights: 68 columns of the product, then zeros. -/
theorem kAt_kw (X : S4x8192x1024.Idx → EReal) (g : S1024.Idx → EReal) (W : S1024x3140.Idx → EReal) (r : Fin 32768) (e : ℕ) (h : e < 128) :
    kAt X g W r (2560 + e) = if e < 68 then zAt X g W r (2560 + e) else 0 := by
  by_cases b : e < 68
  · rw [if_pos b, kAt_low _ _ _ _ _ (by omega)]
  · rw [if_neg b, kAt_zero _ _ _ _ _ (by omega) (by omega)]

/-- Output 0: the scaled queries of the differential attention. Where its blocks lie, one block, and the array. -/
theorem index_3 : ∀ t : Fin cfg0.N, win0_3.index t = ![(grid0.coords t 0).val, 0] := by decide +kernel

theorem out_3 (x0 : Vec Ideal S512x1024 .f32) (x1 : Vec Ideal S1x1024 .f32) (x2 : Vec Ideal S1024x3328 .bf16) (r : Fin 512) (e : Fin 512) :
    out0_3 x0 x1 x2 (ix2 r e) = k0_pay9 x0 x1 x2 (ix2 r ⟨0 + e.val, by omega⟩) * Ideal.ofBits .f32 0x3E000000#32 := by
  unfold out0_3 k0_pay10
  frame_out
  pointwise

theorem array_3 (c : Dev nD) : (dats m 0 c).arrAt 3 cfg0.N = entries (n := 512) (fun r e => layer m c r e * Ideal.ofBits .f32 0x3E000000#32) := by
  refine (dats m 0 c).arrAt_eq_of_covers 3 _ (by decide +kernel) fun t _ y => ?_
  blk_simp
  rw [after0_3]
  obtain ⟨r, e, rfl⟩ : ∃ (r : Fin 512) (e : Fin 512), y = ix2 r e := ⟨y 0, y 1, by funext a; fin_cases a <;> rfl⟩
  have hb : (grid0.coords t 0).val < 64 := (grid0.coords t 0).isLt
  have hy : (win0_3.blk t).view.emb (ix2 r e) = ix2 ⟨512 * (grid0.coords t 0).val + r.val, by omega⟩ e := by
    blk_ext [index_3 t]
  rw [hy, entries_at, out_3, block_at m c t r _ (by omega)]
  exact congrArg (· * Ideal.ofBits .f32 0x3E000000#32) ((kAt_low _ _ _ _ (0 + e.val) (by omega)).trans (congrArg (zAt _ _ _ _) (Nat.zero_add _)))

/-- Output 1: the scaled queries of the sparse attention. Where its blocks lie, one block, and the array. -/
theorem index_4 : ∀ t : Fin cfg0.N, win0_4.index t = ![(grid0.coords t 0).val, 0] := by decide +kernel

theorem out_4 (x0 : Vec Ideal S512x1024 .f32) (x1 : Vec Ideal S1x1024 .f32) (x2 : Vec Ideal S1024x3328 .bf16) (r : Fin 512) (e : Fin 256) :
    out0_4 x0 x1 x2 (ix2 r e) = k0_pay9 x0 x1 x2 (ix2 r ⟨1536 + e.val, by omega⟩) * Ideal.ofBits .f32 0x3E000000#32 := by
  unfold out0_4 k0_pay11
  frame_out
  pointwise

theorem array_4 (c : Dev nD) : (dats m 0 c).arrAt 4 cfg0.N = entries (n := 256) (fun r e => layer m c r (1536 + e) * Ideal.ofBits .f32 0x3E000000#32) := by
  refine (dats m 0 c).arrAt_eq_of_covers 4 _ (by decide +kernel) fun t _ y => ?_
  blk_simp
  rw [after0_4]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_4.blk t).view.emb (ix2 r e) = ix2 ⟨512 * (grid0.coords t 0).val + r.val, by omega⟩ e := by
    blk_ext [index_4 t]
  rw [hy, entries_at, out_4, block_at m c t r _ (by omega)]
  exact congrArg (· * Ideal.ofBits .f32 0x3E000000#32) (kAt_low _ _ _ _ (1536 + e.val) (by omega))

/-- Output 2: the index queries. Where its blocks lie, one block, and the array. -/
theorem index_5 : ∀ t : Fin cfg0.N, win0_5.index t = ![(grid0.coords t 0).val, 0] := by decide +kernel

theorem out_5 (x0 : Vec Ideal S512x1024 .f32) (x1 : Vec Ideal S1x1024 .f32) (x2 : Vec Ideal S1024x3328 .bf16) (r : Fin 512) (e : Fin 256) :
    out0_5 x0 x1 x2 (ix2 r e) = k0_pay9 x0 x1 x2 (ix2 r ⟨2304 + e.val, by omega⟩) := by
  unfold out0_5 k0_pay12
  frame_out
  pointwise

theorem array_5 (c : Dev nD) : (dats m 0 c).arrAt 5 cfg0.N = entries (n := 256) (fun r e => layer m c r (2304 + e)) := by
  refine (dats m 0 c).arrAt_eq_of_covers 5 _ (by decide +kernel) fun t _ y => ?_
  blk_simp
  rw [after0_5]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_5.blk t).view.emb (ix2 r e) = ix2 ⟨512 * (grid0.coords t 0).val + r.val, by omega⟩ e := by
    blk_ext [index_5 t]
  rw [hy, entries_at, out_5, block_at m c t r _ (by omega)]
  exact kAt_low _ _ _ _ (2304 + e.val) (by omega)

/-- Output 3: the keys of the differential attention. Where its blocks lie, one block, and the array. -/
theorem index_6 : ∀ t : Fin cfg0.N, win0_6.index t = ![(grid0.coords t 0).val, 0] := by decide +kernel

theorem out_6 (x0 : Vec Ideal S512x1024 .f32) (x1 : Vec Ideal S1x1024 .f32) (x2 : Vec Ideal S1024x3328 .bf16) (r : Fin 512) (e : Fin 512) :
    out0_6 x0 x1 x2 (ix2 r e) = k0_pay9 x0 x1 x2 (ix2 r ⟨512 + e.val, by omega⟩) := by
  unfold out0_6 k0_pay18 k0_pay13
  frame_out
  pointwise

theorem array_6 (c : Dev nD) : (dats m 0 c).arrAt 6 cfg0.N = entries (n := 512) (fun r e => layer m c r (512 + e)) := by
  refine (dats m 0 c).arrAt_eq_of_covers 6 _ (by decide +kernel) fun t _ y => ?_
  blk_simp
  rw [after0_6]
  obtain ⟨r, e, rfl⟩ : ∃ (r : Fin 512) (e : Fin 512), y = ix2 r e := ⟨y 0, y 1, by funext a; fin_cases a <;> rfl⟩
  have hb : (grid0.coords t 0).val < 64 := (grid0.coords t 0).isLt
  have hy : (win0_6.blk t).view.emb (ix2 r e) = ix2 ⟨512 * (grid0.coords t 0).val + r.val, by omega⟩ e := by
    blk_ext [index_6 t]
  rw [hy, entries_at, out_6, block_at m c t r _ (by omega)]
  exact kAt_low _ _ _ _ (512 + e.val) (by omega)

/-- Output 4: its values. Where its blocks lie, one block, and the array. -/
theorem index_7 : ∀ t : Fin cfg0.N, win0_7.index t = ![(grid0.coords t 0).val, 0] := by decide +kernel

theorem out_7 (x0 : Vec Ideal S512x1024 .f32) (x1 : Vec Ideal S1x1024 .f32) (x2 : Vec Ideal S1024x3328 .bf16) (r : Fin 512) (e : Fin 512) :
    out0_7 x0 x1 x2 (ix2 r e) = k0_pay9 x0 x1 x2 (ix2 r ⟨1024 + e.val, by omega⟩) := by
  unfold out0_7 k0_pay19 k0_pay14
  frame_out
  pointwise

theorem array_7 (c : Dev nD) : (dats m 0 c).arrAt 7 cfg0.N = entries (n := 512) (fun r e => layer m c r (1024 + e)) := by
  refine (dats m 0 c).arrAt_eq_of_covers 7 _ (by decide +kernel) fun t _ y => ?_
  blk_simp
  rw [after0_7]
  obtain ⟨r, e, rfl⟩ : ∃ (r : Fin 512) (e : Fin 512), y = ix2 r e := ⟨y 0, y 1, by funext a; fin_cases a <;> rfl⟩
  have hb : (grid0.coords t 0).val < 64 := (grid0.coords t 0).isLt
  have hy : (win0_7.blk t).view.emb (ix2 r e) = ix2 ⟨512 * (grid0.coords t 0).val + r.val, by omega⟩ e := by
    blk_ext [index_7 t]
  rw [hy, entries_at, out_7, block_at m c t r _ (by omega)]
  exact kAt_low _ _ _ _ (1024 + e.val) (by omega)

/-- Output 5: the keys of the sparse attention. Where its blocks lie, one block, and the array. -/
theorem index_8 : ∀ t : Fin cfg0.N, win0_8.index t = ![(grid0.coords t 0).val, 0] := by decide +kernel

theorem out_8 (x0 : Vec Ideal S512x1024 .f32) (x1 : Vec Ideal S1x1024 .f32) (x2 : Vec Ideal S1024x3328 .bf16) (r : Fin 512) (e : Fin 256) :
    out0_8 x0 x1 x2 (ix2 r e) = k0_pay9 x0 x1 x2 (ix2 r ⟨1792 + e.val, by omega⟩) := by
  unfold out0_8 k0_pay20 k0_pay15
  frame_out
  pointwise

theorem array_8 (c : Dev nD) : (dats m 0 c).arrAt 8 cfg0.N = entries (n := 256) (fun r e => layer m c r (1792 + e)) := by
  refine (dats m 0 c).arrAt_eq_of_covers 8 _ (by decide +kernel) fun t _ y => ?_
  blk_simp
  rw [after0_8]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_8.blk t).view.emb (ix2 r e) = ix2 ⟨512 * (grid0.coords t 0).val + r.val, by omega⟩ e := by
    blk_ext [index_8 t]
  rw [hy, entries_at, out_8, block_at m c t r _ (by omega)]
  exact kAt_low _ _ _ _ (1792 + e.val) (by omega)

/-- Output 6: its values. Where its blocks lie, one block, and the array. -/
theorem index_9 : ∀ t : Fin cfg0.N, win0_9.index t = ![(grid0.coords t 0).val, 0] := by decide +kernel

theorem out_9 (x0 : Vec Ideal S512x1024 .f32) (x1 : Vec Ideal S1x1024 .f32) (x2 : Vec Ideal S1024x3328 .bf16) (r : Fin 512) (e : Fin 256) :
    out0_9 x0 x1 x2 (ix2 r e) = k0_pay9 x0 x1 x2 (ix2 r ⟨2048 + e.val, by omega⟩) := by
  unfold out0_9 k0_pay21 k0_pay16
  frame_out
  pointwise

theorem array_9 (c : Dev nD) : (dats m 0 c).arrAt 9 cfg0.N = entries (n := 256) (fun r e => layer m c r (2048 + e)) := by
  refine (dats m 0 c).arrAt_eq_of_covers 9 _ (by decide +kernel) fun t _ y => ?_
  blk_simp
  rw [after0_9]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_9.blk t).view.emb (ix2 r e) = ix2 ⟨512 * (grid0.coords t 0).val + r.val, by omega⟩ e := by
    blk_ext [index_9 t]
  rw [hy, entries_at, out_9, block_at m c t r _ (by omega)]
  exact kAt_low _ _ _ _ (2048 + e.val) (by omega)

/-- Output 7: the index keys and weights. Where its blocks lie, one block, and the array. -/
theorem index_10 : ∀ t : Fin cfg0.N, win0_10.index t = ![(grid0.coords t 0).val, 0] := by decide +kernel

theorem out_10 (x0 : Vec Ideal S512x1024 .f32) (x1 : Vec Ideal S1x1024 .f32) (x2 : Vec Ideal S1024x3328 .bf16) (r : Fin 512) (e : Fin 128) :
    out0_10 x0 x1 x2 (ix2 r e) = k0_pay9 x0 x1 x2 (ix2 r ⟨2560 + e.val, by omega⟩) := by
  unfold out0_10 k0_pay17 k0_pay5
  frame_out
  pointwise

theorem array_10 (c : Dev nD) : (dats m 0 c).arrAt 10 cfg0.N = entries (n := 128) (fun r e => if e < 68 then layer m c r (2560 + e) else 0) := by
  refine (dats m 0 c).arrAt_eq_of_covers 10 _ (by decide +kernel) fun t _ y => ?_
  blk_simp
  rw [after0_10]
  obtain ⟨r, e, rfl⟩ : ∃ (r : Fin 512) (e : Fin 128), y = ix2 r e := ⟨y 0, y 1, by funext a; fin_cases a <;> rfl⟩
  have hb : (grid0.coords t 0).val < 64 := (grid0.coords t 0).isLt
  have hy : (win0_10.blk t).view.emb (ix2 r e) = ix2 ⟨512 * (grid0.coords t 0).val + r.val, by omega⟩ e := by
    blk_ext [index_10 t]
  rw [hy, entries_at, out_10, block_at m c t r _ (by omega)]
  exact kAt_kw _ _ _ _ _ e.isLt

/-- Output 8: the input of the recurrence. Where its blocks lie, one block, and the array. -/
theorem index_11 : ∀ t : Fin cfg0.N, win0_11.index t = ![(grid0.coords t 0).val, 0] := by decide +kernel

theorem out_11 (x0 : Vec Ideal S512x1024 .f32) (x1 : Vec Ideal S1x1024 .f32) (x2 : Vec Ideal S1024x3328 .bf16) (r : Fin 512) (e : Fin 256) :
    out0_11 x0 x1 x2 (ix2 r e) = k0_pay9 x0 x1 x2 (ix2 r ⟨2816 + e.val, by omega⟩) := by
  unfold out0_11 k0_pay17 k0_pay7
  frame_out
  pointwise

theorem array_11 (c : Dev nD) : (dats m 0 c).arrAt 11 cfg0.N = entries (n := 256) (fun r e => layer m c r (2628 + e)) := by
  refine (dats m 0 c).arrAt_eq_of_covers 11 _ (by decide +kernel) fun t _ y => ?_
  blk_simp
  rw [after0_11]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_11.blk t).view.emb (ix2 r e) = ix2 ⟨512 * (grid0.coords t 0).val + r.val, by omega⟩ e := by
    blk_ext [index_11 t]
  rw [hy, entries_at, out_11, block_at m c t r _ (by omega)]
  exact kAt_high _ _ _ _ e.val

/-- Output 9: its gate. Where its blocks lie, one block, and the array. -/
theorem index_12 : ∀ t : Fin cfg0.N, win0_12.index t = ![(grid0.coords t 0).val, 0] := by decide +kernel

theorem out_12 (x0 : Vec Ideal S512x1024 .f32) (x1 : Vec Ideal S1x1024 .f32) (x2 : Vec Ideal S1024x3328 .bf16) (r : Fin 512) (e : Fin 256) :
    out0_12 x0 x1 x2 (ix2 r e) = k0_pay9 x0 x1 x2 (ix2 r ⟨3072 + e.val, by omega⟩) := by
  unfold out0_12 k0_pay17 k0_pay8
  frame_out
  pointwise

theorem array_12 (c : Dev nD) : (dats m 0 c).arrAt 12 cfg0.N = entries (n := 256) (fun r e => layer m c r (2884 + e)) := by
  refine (dats m 0 c).arrAt_eq_of_covers 12 _ (by decide +kernel) fun t _ y => ?_
  blk_simp
  rw [after0_12]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_12.blk t).view.emb (ix2 r e) = ix2 ⟨512 * (grid0.coords t 0).val + r.val, by omega⟩ e := by
    blk_ext [index_12 t]
  rw [hy, entries_at, out_12, block_at m c t r _ (by omega)]
  exact (congrArg (kAt _ _ _ _) (by dsimp only; omega)).trans ((kAt_high _ _ _ _ (256 + e.val)).trans (congrArg (zAt _ _ _ _) (by omega)))

/-- Output 10: the keys of the differential attention again. Where its blocks lie, one block, and the array. -/
theorem index_13 : ∀ t : Fin cfg0.N, win0_13.index t = ![(grid0.coords t 0).val, 0] := by decide +kernel

theorem out_13 (x0 : Vec Ideal S512x1024 .f32) (x1 : Vec Ideal S1x1024 .f32) (x2 : Vec Ideal S1024x3328 .bf16) (r : Fin 512) (e : Fin 512) :
    out0_13 x0 x1 x2 (ix2 r e) = k0_pay9 x0 x1 x2 (ix2 r ⟨512 + e.val, by omega⟩) := by
  unfold out0_13 k0_pay1 k0_pay18 k0_pay13
  frame_out
  pointwise

theorem array_13 (c : Dev nD) : (dats m 0 c).arrAt 13 cfg0.N = entries (n := 512) (fun r e => layer m c r (512 + e)) := by
  refine (dats m 0 c).arrAt_eq_of_covers 13 _ (by decide +kernel) fun t _ y => ?_
  blk_simp
  rw [after0_13]
  obtain ⟨r, e, rfl⟩ : ∃ (r : Fin 512) (e : Fin 512), y = ix2 r e := ⟨y 0, y 1, by funext a; fin_cases a <;> rfl⟩
  have hb : (grid0.coords t 0).val < 64 := (grid0.coords t 0).isLt
  have hy : (win0_13.blk t).view.emb (ix2 r e) = ix2 ⟨512 * (grid0.coords t 0).val + r.val, by omega⟩ e := by
    blk_ext [index_13 t]
  rw [hy, entries_at, out_13, block_at m c t r _ (by omega)]
  exact kAt_low _ _ _ _ (512 + e.val) (by omega)

/-- Output 11: its values again. Where its blocks lie, one block, and the array. -/
theorem index_14 : ∀ t : Fin cfg0.N, win0_14.index t = ![(grid0.coords t 0).val, 0] := by decide +kernel

theorem out_14 (x0 : Vec Ideal S512x1024 .f32) (x1 : Vec Ideal S1x1024 .f32) (x2 : Vec Ideal S1024x3328 .bf16) (r : Fin 512) (e : Fin 512) :
    out0_14 x0 x1 x2 (ix2 r e) = k0_pay9 x0 x1 x2 (ix2 r ⟨1024 + e.val, by omega⟩) := by
  unfold out0_14 k0_pay2 k0_pay19 k0_pay14
  frame_out
  pointwise

theorem array_14 (c : Dev nD) : (dats m 0 c).arrAt 14 cfg0.N = entries (n := 512) (fun r e => layer m c r (1024 + e)) := by
  refine (dats m 0 c).arrAt_eq_of_covers 14 _ (by decide +kernel) fun t _ y => ?_
  blk_simp
  rw [after0_14]
  obtain ⟨r, e, rfl⟩ : ∃ (r : Fin 512) (e : Fin 512), y = ix2 r e := ⟨y 0, y 1, by funext a; fin_cases a <;> rfl⟩
  have hb : (grid0.coords t 0).val < 64 := (grid0.coords t 0).isLt
  have hy : (win0_14.blk t).view.emb (ix2 r e) = ix2 ⟨512 * (grid0.coords t 0).val + r.val, by omega⟩ e := by
    blk_ext [index_14 t]
  rw [hy, entries_at, out_14, block_at m c t r _ (by omega)]
  exact kAt_low _ _ _ _ (1024 + e.val) (by omega)

/-- Output 12: the keys of the sparse attention again. Where its blocks lie, one block, and the array. -/
theorem index_15 : ∀ t : Fin cfg0.N, win0_15.index t = ![(grid0.coords t 0).val, 0] := by decide +kernel

theorem out_15 (x0 : Vec Ideal S512x1024 .f32) (x1 : Vec Ideal S1x1024 .f32) (x2 : Vec Ideal S1024x3328 .bf16) (r : Fin 512) (e : Fin 256) :
    out0_15 x0 x1 x2 (ix2 r e) = k0_pay9 x0 x1 x2 (ix2 r ⟨1792 + e.val, by omega⟩) := by
  unfold out0_15 k0_pay3 k0_pay20 k0_pay15
  frame_out
  pointwise

theorem array_15 (c : Dev nD) : (dats m 0 c).arrAt 15 cfg0.N = entries (n := 256) (fun r e => layer m c r (1792 + e)) := by
  refine (dats m 0 c).arrAt_eq_of_covers 15 _ (by decide +kernel) fun t _ y => ?_
  blk_simp
  rw [after0_15]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_15.blk t).view.emb (ix2 r e) = ix2 ⟨512 * (grid0.coords t 0).val + r.val, by omega⟩ e := by
    blk_ext [index_15 t]
  rw [hy, entries_at, out_15, block_at m c t r _ (by omega)]
  exact kAt_low _ _ _ _ (1792 + e.val) (by omega)

/-- Output 13: its values again. Where its blocks lie, one block, and the array. -/
theorem index_16 : ∀ t : Fin cfg0.N, win0_16.index t = ![(grid0.coords t 0).val, 0] := by decide +kernel

theorem out_16 (x0 : Vec Ideal S512x1024 .f32) (x1 : Vec Ideal S1x1024 .f32) (x2 : Vec Ideal S1024x3328 .bf16) (r : Fin 512) (e : Fin 256) :
    out0_16 x0 x1 x2 (ix2 r e) = k0_pay9 x0 x1 x2 (ix2 r ⟨2048 + e.val, by omega⟩) := by
  unfold out0_16 k0_pay4 k0_pay21 k0_pay16
  frame_out
  pointwise

theorem array_16 (c : Dev nD) : (dats m 0 c).arrAt 16 cfg0.N = entries (n := 256) (fun r e => layer m c r (2048 + e)) := by
  refine (dats m 0 c).arrAt_eq_of_covers 16 _ (by decide +kernel) fun t _ y => ?_
  blk_simp
  rw [after0_16]
  obtain ⟨r, e, rfl⟩ : ∃ (r : Fin 512) (e : Fin 256), y = ix2 r e := ⟨y 0, y 1, by funext a; fin_cases a <;> rfl⟩
  have hb : (grid0.coords t 0).val < 64 := (grid0.coords t 0).isLt
  have hy : (win0_16.blk t).view.emb (ix2 r e) = ix2 ⟨512 * (grid0.coords t 0).val + r.val, by omega⟩ e := by
    blk_ext [index_16 t]
  rw [hy, entries_at, out_16, block_at m c t r _ (by omega)]
  exact kAt_low _ _ _ _ (2048 + e.val) (by omega)

/-- Output 14: the index keys, twice. Where its blocks lie, one block, and the array. -/
theorem index_17 : ∀ t : Fin cfg0.N, win0_17.index t = ![(grid0.coords t 0).val, 0] := by decide +kernel

theorem out_17 (x0 : Vec Ideal S512x1024 .f32) (x1 : Vec Ideal S1x1024 .f32) (x2 : Vec Ideal S1024x3328 .bf16) (r : Fin 512) (e : Fin 128) :
    out0_17 x0 x1 x2 (ix2 r e) = k0_pay9 x0 x1 x2 (ix2 r ⟨2688 + e.val, by omega⟩) := by
  unfold out0_17 k0_pay17 k0_pay6
  frame_out
  pointwise

theorem array_17 (c : Dev nD) : (dats m 0 c).arrAt 17 cfg0.N = entries (n := 128) (fun r e => layer m c r (2560 + e % 64)) := by
  refine (dats m 0 c).arrAt_eq_of_covers 17 _ (by decide +kernel) fun t _ y => ?_
  blk_simp
  rw [after0_17]
  obtain ⟨r, e, rfl⟩ : ∃ (r : Fin 512) (e : Fin 128), y = ix2 r e := ⟨y 0, y 1, by funext a; fin_cases a <;> rfl⟩
  have hb : (grid0.coords t 0).val < 64 := (grid0.coords t 0).isLt
  have hy : (win0_17.blk t).view.emb (ix2 r e) = ix2 ⟨512 * (grid0.coords t 0).val + r.val, by omega⟩ e := by
    blk_ext [index_17 t]
  rw [hy, entries_at, out_17, block_at m c t r _ (by omega)]
  exact kAt_twice _ _ _ _ _ e.isLt

end Cert.Kernel2Ideal.Proj
end
-- ==== Proof.ProjRef.lean ====
/-
  THE INPUT PROJECTION, reference side: each result as a stretch of columns of the layer's product.
-/
module

public import proofs.«01_k».proof.Proof.Norm
public import proofs.«01_k».proof.Proof.Gen.Reference2Ideal.Run
public import Idealize.ShloMosaic.Lib.Pipeline.ValueKit

@[expose] public section
set_option maxRecDepth 16384
noncomputable section
open Idealize.ShloMosaic Idealize.ShloMosaic.TcCoe Idealize.SL.Sem
namespace Cert.Reference2Ideal.Proj
open Cert.Reference2Ideal Cert.Reference2Ideal.Gen Cert.Rows

variable (X : FVec Ideal S4x8192x1024 .f32) (g : FVec Ideal S1024 .f32) (W : FVec Ideal S1024x3140 .f32)

/-- The product of the normed rows and the weight, as the reference forms it. -/
def product : FVec Ideal S32768x3140 .f32 :=
  Host.dotGeneral dot_S32768x1024_S1024x3140_S32768x3140_1_0_0_1_n_n none (mulf (mulf (shapeCast _ X shapeCasts_S4x8192x1024_S32768x1024) (broadcastInDim S32768x1024 ![0, 1] bcast_S32768x1_S32768x1024_0_1 (Host.rsqrt (addf (Host.divf (broadcastInDim S32768x1 ![0] bcast_S32768_S32768x1_0 (Host.reduceAdd (mulf (shapeCast _ X shapeCasts_S4x8192x1024_S32768x1024) (shapeCast _ X shapeCasts_S4x8192x1024_S32768x1024)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W

/-- Its entries. -/
theorem product_at (r : Fin 32768) (c : Fin 3140) : product X g W (ix2 r c) = zAt X g W r c.val := by
  unfold product zAt rowNorm row
  have hc : (⟨c.val % 3140, Nat.mod_lt _ (by decide)⟩ : Fin 3140) = c := Fin.ext (Nat.mod_eq_of_lt c.isLt)
  rw [hc]
  pointwise

/-- Result 0. -/
theorem result_0 : truncf .bf16 (mulf (extractStridedSlice S32768x512 ![0, 0] (product X g W) slices_S32768x3140_S32768x512_0_0) (broadcastInDim S32768x512 ![] bcast_S_S32768x512 (constant S_ .f32 0x3E000000#32))) bitsLt_bf16_f32 = entries (n := 512) (fun r e => zAt X g W r e * Ideal.ofBits .f32 0x3E000000#32) := by
  funext y
  obtain ⟨r, e, rfl⟩ : ∃ (r : Fin 32768) (e : Fin 512), y = ix2 r e := ⟨y 0, y 1, by funext a; fin_cases a <;> rfl⟩
  rw [entries_at]
  pointwise [product_at]

/-- Result 1. -/
theorem result_1 : truncf .bf16 (mulf (extractStridedSlice S32768x256 ![0, 1536] (product X g W) slices_S32768x3140_S32768x256_0_1536) (broadcastInDim S32768x256 ![] bcast_S_S32768x256 (constant S_ .f32 0x3E000000#32))) bitsLt_bf16_f32 = entries (n := 256) (fun r e => zAt X g W r (1536 + e) * Ideal.ofBits .f32 0x3E000000#32) := by
  funext y
  obtain ⟨r, e, rfl⟩ : ∃ (r : Fin 32768) (e : Fin 256), y = ix2 r e := ⟨y 0, y 1, by funext a; fin_cases a <;> rfl⟩
  rw [entries_at]
  pointwise [product_at]

/-- Result 2. -/
theorem result_2 : truncf .bf16 (extractStridedSlice S32768x256 ![0, 2304] (product X g W) slices_S32768x3140_S32768x256_0_2304) bitsLt_bf16_f32 = entries (n := 256) (fun r e => zAt X g W r (2304 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 3. -/
theorem result_3 : extractStridedSlice S32768x512 ![0, 512] (product X g W) slices_S32768x3140_S32768x512_0_512 = entries (n := 512) (fun r e => zAt X g W r (512 + e)) := by
  funext y
  obtain ⟨r, e, rfl⟩ : ∃ (r : Fin 32768) (e : Fin 512), y = ix2 r e := ⟨y 0, y 1, by funext a; fin_cases a <;> rfl⟩
  rw [entries_at]
  pointwise [product_at]

/-- Result 4. -/
theorem result_4 : extractStridedSlice S32768x512 ![0, 1024] (product X g W) slices_S32768x3140_S32768x512_0_1024 = entries (n := 512) (fun r e => zAt X g W r (1024 + e)) := by
  funext y
  obtain ⟨r, e, rfl⟩ : ∃ (r : Fin 32768) (e : Fin 512), y = ix2 r e := ⟨y 0, y 1, by funext a; fin_cases a <;> rfl⟩
  rw [entries_at]
  pointwise [product_at]

/-- Result 5. -/
theorem result_5 : extractStridedSlice S32768x256 ![0, 1792] (product X g W) slices_S32768x3140_S32768x256_0_1792 = entries (n := 256) (fun r e => zAt X g W r (1792 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 6. -/
theorem result_6 : extractStridedSlice S32768x256 ![0, 2048] (product X g W) slices_S32768x3140_S32768x256_0_2048 = entries (n := 256) (fun r e => zAt X g W r (2048 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 7. -/
theorem result_7 : (concatenate S32768x128 1 [⟨S32768x64, ((extractStridedSlice S32768x64 ![0, 2560] (product X g W) slices_S32768x3140_S32768x64_0_2560) : (⟨S32768x64, .f32⟩ : BufTy).Contents (Elt Ideal))⟩, ⟨S32768x4, ((extractStridedSlice S32768x4 ![0, 2624] (product X g W) slices_S32768x3140_S32768x4_0_2624) : (⟨S32768x4, .f32⟩ : BufTy).Contents (Elt Ideal))⟩, ⟨S32768x60, ((broadcastInDim S32768x60 ![] bcast_S_S32768x60 (constant S_ .f32 0x00000000#32 : FVec Ideal S_ .f32)) : (⟨S32768x60, .f32⟩ : BufTy).Contents (Elt Ideal))⟩] concatenates_S32768x64_S32768x4_S32768x60_S32768x128_d1 : (⟨S32768x128, .f32⟩ : BufTy).Contents (Elt Ideal)) = entries (n := 128) (fun r e => if e < 68 then zAt X g W r (2560 + e) else 0) := by
  funext y
  obtain ⟨r, e, rfl⟩ : ∃ (r : Fin 32768) (e : Fin 128), y = ix2 r e := ⟨y 0, y 1, by funext a; fin_cases a <;> rfl⟩
  rw [entries_at]
  pointwise [product_at]
  by_cases h : e.val < 64
  · rw [dif_pos h, if_pos (by omega)]
  · rw [dif_neg h]
    by_cases h' : e.val < 68
    · rw [dif_pos (by omega), if_pos h']
      exact congrArg (zAt X g W r) (by omega)
    · rw [dif_neg (by omega), if_neg h']

/-- Result 8. -/
theorem result_8 : extractStridedSlice S32768x256 ![0, 2628] (product X g W) slices_S32768x3140_S32768x256_0_2628 = entries (n := 256) (fun r e => zAt X g W r (2628 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 9. -/
theorem result_9 : extractStridedSlice S32768x256 ![0, 2884] (product X g W) slices_S32768x3140_S32768x256_0_2884 = entries (n := 256) (fun r e => zAt X g W r (2884 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 10. -/
theorem result_10 : truncf .bf16 (extractStridedSlice S32768x512 ![0, 512] (product X g W) slices_S32768x3140_S32768x512_0_512) bitsLt_bf16_f32 = entries (n := 512) (fun r e => zAt X g W r (512 + e)) := by
  funext y
  obtain ⟨r, e, rfl⟩ : ∃ (r : Fin 32768) (e : Fin 512), y = ix2 r e := ⟨y 0, y 1, by funext a; fin_cases a <;> rfl⟩
  rw [entries_at]
  pointwise [product_at]

/-- Result 11. -/
theorem result_11 : truncf .bf16 (extractStridedSlice S32768x512 ![0, 1024] (product X g W) slices_S32768x3140_S32768x512_0_1024) bitsLt_bf16_f32 = entries (n := 512) (fun r e => zAt X g W r (1024 + e)) := by
  funext y
  obtain ⟨r, e, rfl⟩ : ∃ (r : Fin 32768) (e : Fin 512), y = ix2 r e := ⟨y 0, y 1, by funext a; fin_cases a <;> rfl⟩
  rw [entries_at]
  pointwise [product_at]

/-- Result 12. -/
theorem result_12 : truncf .bf16 (extractStridedSlice S32768x256 ![0, 1792] (product X g W) slices_S32768x3140_S32768x256_0_1792) bitsLt_bf16_f32 = entries (n := 256) (fun r e => zAt X g W r (1792 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 13. -/
theorem result_13 : truncf .bf16 (extractStridedSlice S32768x256 ![0, 2048] (product X g W) slices_S32768x3140_S32768x256_0_2048) bitsLt_bf16_f32 = entries (n := 256) (fun r e => zAt X g W r (2048 + e)) := by
  funext y
  obtain ⟨r, e, rfl⟩ : ∃ (r : Fin 32768) (e : Fin 256), y = ix2 r e := ⟨y 0, y 1, by funext a; fin_cases a <;> rfl⟩
  rw [entries_at]
  pointwise [product_at]

/-- Result 14. -/
theorem result_14 : truncf .bf16 (concatenate S32768x128 1 [⟨S32768x64, (extractStridedSlice S32768x64 ![0, 2560] (product X g W) slices_S32768x3140_S32768x64_0_2560)⟩, ⟨S32768x64, (extractStridedSlice S32768x64 ![0, 2560] (product X g W) slices_S32768x3140_S32768x64_0_2560)⟩] concatenates_S32768x64_S32768x64_S32768x128_d1) bitsLt_bf16_f32 = entries (n := 128) (fun r e => zAt X g W r (2560 + e % 64)) := by
  funext y
  obtain ⟨r, e, rfl⟩ : ∃ (r : Fin 32768) (e : Fin 128), y = ix2 r e := ⟨y 0, y 1, by funext a; fin_cases a <;> rfl⟩
  rw [entries_at]
  pointwise [product_at]
  by_cases h : e.val < 64
  · rw [dif_pos h, Nat.mod_eq_of_lt h]
  · rw [dif_neg h]
    exact congrArg (zAt X g W r) (by omega)

end Cert.Reference2Ideal.Proj
end
-- ==== Proof.Outproj.lean ====
/-
  THE OUTPUT PROJECTION, kernel side: the residual sum with the three mixers' outputs, and its norm.
-/
module

public import proofs.«01_k».proof.Proof.Norm
public import proofs.«01_k».proof.Proof.Gen.Kernel3Ideal.Value
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.Kernel3Ideal.Outproj
open Cert.Kernel3Ideal Cert.Kernel3Ideal.Gen Cert.Rows

/-- One block of the residual sum, at row `r` and column `d`. -/
theorem sum_at (x0 : Vec Ideal S512x1024 .f32) (x1 : Vec Ideal S512x512 .bf16) (x2 : Vec Ideal S512x256 .bf16) (x3 : Vec Ideal S512x256 .bf16) (x4 : Vec Ideal S1024x1024 .bf16) (r : Fin 512) (d : Fin 1024) :
    k0_pay2 (F := Ideal) x1 (View.ld x4 r0_1) x2 (View.ld x4 r0_3) x3 (View.ld x4 r0_4) x0 (ix2 r d)
      = mixed (fun d => x0 (ix2 r d)) (fun e => x1 (ix2 r e)) (fun e => x2 (ix2 r e)) (fun e => x3 (ix2 r e)) x4 d := by
  unfold mixed
  rw [joined_sum]
  unfold k0_pay2
  pointwise

/-- A block of the residual sum … -/
theorem out_6 (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (r : Fin 512) (d : Fin 1024) :
    out0_6 x0 x1 x2 x3 x4 x5 (ix2 r d) = mixed (fun d => x0 (ix2 r d)) (fun e => x1 (ix2 r e)) (fun e => x2 (ix2 r e)) (fun e => x3 (ix2 r e)) x4 d := by
  rw [← sum_at]
  unfold out0_6
  frame_out

/-- … and of its norm. -/
theorem out_7 (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (r : Fin 512) (d : Fin 1024) :
    out0_7 x0 x1 x2 x3 x4 x5 (ix2 r d)
      = rowNorm (mixed (fun d => x0 (ix2 r d)) (fun e => x1 (ix2 r e)) (fun e => x2 (ix2 r e)) (fun e => x3 (ix2 r e)) x4) (fun d => x5 (ix2 0 d)) d := by
  unfold out0_7 k0_pay1 k0_pay3 k0_pay4 rowNorm
  frame_out
  pointwise [sum_at]

variable (m : (ℓ : Loc nD τ sig) → Buf (Elt Ideal) ℓ)

/-- Where the blocks lie: rows by the grid step, the weight and the gain whole. -/
theorem index_0 : ∀ t : Fin cfg0.N, win0_0.index t = ![(grid0.coords t 0).val, 0] := by decide +kernel
theorem index_1 : ∀ t : Fin cfg0.N, win0_1.index t = ![(grid0.coords t 0).val, 0] := by decide +kernel
theorem index_2 : ∀ t : Fin cfg0.N, win0_2.index t = ![(grid0.coords t 0).val, 0] := by decide +kernel
theorem index_3 : ∀ t : Fin cfg0.N, win0_3.index t = ![(grid0.coords t 0).val, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![(grid0.coords t 0).val, 0] := by decide +kernel
theorem index_7 : ∀ t : Fin cfg0.N, win0_7.index t = ![(grid0.coords t 0).val, 0] := by decide +kernel

/-- A staged row of the activations. -/
theorem iblk_0 (c : Dev nD) (t : Fin cfg0.N) (r : Fin 512) (d : Fin 1024) (h : 512 * (grid0.coords t 0).val + r.val < 32768) :
    iblk m c 0 t (ix2 r d) = row (m ((c : Thread nD τ).loc main_arg0)) ⟨512 * (grid0.coords t 0).val + r.val, h⟩ d := by
  unfold row
  blk_simp [iblk]
  unfold V
  after_reads_at
  show m (c, Proc.tc.devRef main_arg0) _ = m (c, Proc.tc.devRef main_arg0) _
  blk_ext [index_0 t]

/-- A staged row of the first mixer's output. -/
theorem iblk_1 (c : Dev nD) (t : Fin cfg0.N) (r : Fin 512) (d : Fin 512) (h : 512 * (grid0.coords t 0).val + r.val < 32768) :
    iblk m c 1 t (ix2 r d) = row (m ((c : Thread nD τ).loc main_arg1)) ⟨512 * (grid0.coords t 0).val + r.val, h⟩ d := by
  unfold row
  blk_simp [iblk]
  unfold V
  after_reads_at
  show m (c, Proc.tc.devRef main_arg1) _ = m (c, Proc.tc.devRef main_arg1) _
  blk_ext [index_1 t]

/-- A staged row of the second's. -/
theorem iblk_2 (c : Dev nD) (t : Fin cfg0.N) (r : Fin 512) (d : Fin 256) (h : 512 * (grid0.coords t 0).val + r.val < 32768) :
    iblk m c 2 t (ix2 r d) = row (m ((c : Thread nD τ).loc main_arg2)) ⟨512 * (grid0.coords t 0).val + r.val, h⟩ d := by
  unfold row
  blk_simp [iblk]
  unfold V
  after_reads_at
  show m (c, Proc.tc.devRef main_arg2) _ = m (c, Proc.tc.devRef main_arg2) _
  blk_ext [index_2 t]

/-- A staged row of the third's. -/
theorem iblk_3 (c : Dev nD) (t : Fin cfg0.N) (r : Fin 512) (d : Fin 256) (h : 512 * (grid0.coords t 0).val + r.val < 32768) :
    iblk m c 3 t (ix2 r d) = row (m ((c : Thread nD τ).loc main_arg3)) ⟨512 * (grid0.coords t 0).val + r.val, h⟩ d := by
  unfold row
  blk_simp [iblk]
  unfold V
  after_reads_at
  show m (c, Proc.tc.devRef main_arg3) _ = m (c, Proc.tc.devRef main_arg3) _
  blk_ext [index_3 t]

/-- The staged weight. -/
theorem iblk_4 (c : Dev nD) (t : Fin cfg0.N) : iblk m c 4 t = m ((c : Thread nD τ).loc main_arg4) := by
  funext y
  obtain ⟨r, e, rfl⟩ : ∃ (r : Fin 1024) (e : Fin 1024), y = ix2 r e := ⟨y 0, y 1, by funext a; fin_cases a <;> rfl⟩
  blk_simp [iblk]
  unfold V
  after_reads_at
  show m (c, Proc.tc.devRef main_arg4) _ = m (c, Proc.tc.devRef main_arg4) _
  blk_ext [index_4 t]

/-- The staged gain. -/
theorem iblk_5 (c : Dev nD) (t : Fin cfg0.N) (d : Fin 1024) :
    iblk m c 5 t (ix2 0 d) = m ((c : Thread nD τ).loc main_arg5) (ix1 d) := by
  blk_simp [iblk]
  unfold V
  after_reads_at
  show m (c, Proc.tc.devRef main_arg5) _ = m (c, Proc.tc.devRef main_arg5) (ix1 d)
  blk_ext [index_5 t]

/-- A row of the residual sum of the arguments of the call. -/
def residual (c : Dev nD) (r : Fin 32768) : Fin 1024 → EReal :=
  mixed (row (m ((c : Thread nD τ).loc main_arg0)) r) (row (m ((c : Thread nD τ).loc main_arg1)) r) (row (m ((c : Thread nD τ).loc main_arg2)) r)
    (row (m ((c : Thread nD τ).loc main_arg3)) r) (m ((c : Thread nD τ).loc main_arg4))

/-- The residual sum inside one grid step. -/
theorem block_at (c : Dev nD) (t : Fin cfg0.N) (r : Fin 512) (h : 512 * (grid0.coords t 0).val + r.val < 32768) :
    mixed (fun d => iblk m c 0 t (ix2 r d)) (fun e => iblk m c 1 t (ix2 r e)) (fun e => iblk m c 2 t (ix2 r e)) (fun e => iblk m c 3 t (ix2 r e)) (iblk m c 4 t)
      = residual m c ⟨512 * (grid0.coords t 0).val + r.val, h⟩ := by
  unfold residual
  simp only [iblk_0 m c t r _ h, iblk_1 m c t r _ h, iblk_2 m c t r _ h, iblk_3 m c t r _ h, iblk_4]

/-- The array of the residual sum. -/
theorem array_6 (c : Dev nD) : (dats m 0 c).arrAt 6 cfg0.N = table (fun r d => residual m c r d) := by
  refine (dats m 0 c).arrAt_eq_of_covers 6 _ (by decide +kernel) fun t _ y => ?_
  blk_simp
  rw [after0_6]
  obtain ⟨r, e, rfl⟩ : ∃ (r : Fin 512) (e : Fin 1024), y = ix2 r e := ⟨y 0, y 1, by funext a; fin_cases a <;> rfl⟩
  have hb : (grid0.coords t 0).val < 64 := (grid0.coords t 0).isLt
  have hy : (win0_6.blk t).view.emb (ix2 r e) = ix2 ⟨512 * (grid0.coords t 0).val + r.val, by omega⟩ e := by
    blk_ext [index_6 t]
  rw [hy, table_at, out_6, block_at m c t r (by omega)]

/-- The array of its norm. -/
theorem array_7 (c : Dev nD) : (dats m 0 c).arrAt 7 cfg0.N = table (fun r d => rowNorm (residual m c r) (fun d => m ((c : Thread nD τ).loc main_arg5) (ix1 d)) d) := by
  refine (dats m 0 c).arrAt_eq_of_covers 7 _ (by decide +kernel) fun t _ y => ?_
  blk_simp
  rw [after0_7]
  obtain ⟨r, e, rfl⟩ : ∃ (r : Fin 512) (e : Fin 1024), y = ix2 r e := ⟨y 0, y 1, by funext a; fin_cases a <;> rfl⟩
  have hb : (grid0.coords t 0).val < 64 := (grid0.coords t 0).isLt
  have hy : (win0_7.blk t).view.emb (ix2 r e) = ix2 ⟨512 * (grid0.coords t 0).val + r.val, by omega⟩ e := by
    blk_ext [index_7 t]
  rw [hy, table_at, out_7, block_at m c t r (by omega)]
  simp only [iblk_5]

end Cert.Kernel3Ideal.Outproj
end
-- ==== Proof.OutprojRef.lean ====
/-
  THE OUTPUT PROJECTION, reference side: the residual sum of each row, and its norm.
-/
module

public import proofs.«01_k».proof.Proof.Norm
public import proofs.«01_k».proof.Proof.Gen.Reference3Ideal.Run
public import Idealize.ShloMosaic.Lib.Pipeline.ValueKit

@[expose] public section
set_option maxRecDepth 16384
noncomputable section
open Idealize.ShloMosaic Idealize.ShloMosaic.TcCoe Idealize.SL.Sem
namespace Cert.Reference3Ideal.Outproj
open Cert.Reference3Ideal Cert.Reference3Ideal.Gen Cert.Rows

variable (X : FVec Ideal S4x8192x1024 .f32) (A : FVec Ideal S4x8192x512 .bf16) (B C : FVec Ideal S4x8192x256 .bf16) (W : FVec Ideal S1024x1024 .f32) (g : FVec Ideal S1024 .f32)

/-- The residual sum, as the reference forms it. -/
def residual : FVec Ideal S32768x1024 .f32 :=
  shapeCast S32768x1024 (addf X (Host.dotGeneral dot_S4x8192x1024_S1024x1024_S4x8192x1024_2_0_01_1_n_n none ((concatenate S4x8192x1024 2 [⟨S4x8192x512, ((extf .f32 A bitsLt_bf16_f32) : (⟨S4x8192x512, .f32⟩ : BufTy).Contents (Elt Ideal))⟩, ⟨S4x8192x256, ((extf .f32 B bitsLt_bf16_f32) : (⟨S4x8192x256, .f32⟩ : BufTy).Contents (Elt Ideal))⟩, ⟨S4x8192x256, ((extf .f32 C bitsLt_bf16_f32) : (⟨S4x8192x256, .f32⟩ : BufTy).Contents (Elt Ideal))⟩] concatenates_S4x8192x512_S4x8192x256_S4x8192x256_S4x8192x1024_d2 : FVec Ideal S4x8192x1024 .f32)) W)) shapeCasts_S4x8192x1024_S32768x1024

/-- Its entries. -/
theorem residual_at (r : Fin 32768) (d : Fin 1024) : residual X A B C W (ix2 r d) = mixed (row X r) (row A r) (row B r) (row C r) W d := by
  unfold residual mixed joined row
  pointwise

/-- The first result. -/
theorem result_0 : residual X A B C W = table (fun r d => mixed (row X r) (row A r) (row B r) (row C r) W d) := by
  funext y
  obtain ⟨r, e, rfl⟩ : ∃ (r : Fin 32768) (e : Fin 1024), y = ix2 r e := ⟨y 0, y 1, by funext a; fin_cases a <;> rfl⟩
  exact residual_at X A B C W r e

/-- The second result. -/
theorem result_1 : truncf .bf16 (mulf (mulf (residual X A B C W) (broadcastInDim S32768x1024 ![0, 1] bcast_S32768x1_S32768x1024_0_1 (Host.rsqrt (addf (Host.divf (broadcastInDim S32768x1 ![0] bcast_S32768_S32768x1_0 (Host.reduceAdd (mulf (residual X A B C W) (residual X A B C W)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) bitsLt_bf16_f32 = table (fun r d => rowNorm (mixed (row X r) (row A r) (row B r) (row C r) W) (fun d => g (ix1 d)) d) := by
  funext y
  obtain ⟨r, e, rfl⟩ : ∃ (r : Fin 32768) (e : Fin 1024), y = ix2 r e := ⟨y 0, y 1, by funext a; fin_cases a <;> rfl⟩
  rw [table_at]
  unfold rowNorm
  pointwise [residual_at]

end Cert.Reference3Ideal.Outproj
end
-- ==== Proof.FfnBitsStep.lean ====
/-
  ONE POINT OF THE FFN, ALL CASES: the six runs of the body put together, what it leaves stated by cases on the coordinates.
-/
module

public import proofs.«01_k».proof.Proof.FfnBitsRunA
public import proofs.«01_k».proof.Proof.FfnBitsRunB
public import proofs.«01_k».proof.Proof.FfnBitsRunC
public import proofs.«01_k».proof.Proof.FfnBitsRunD
public import proofs.«01_k».proof.Proof.FfnBitsRunE
public import proofs.«01_k».proof.Proof.FfnBitsRunG
public import Idealize.ShloMosaic.Lib.Claim

@[expose] public section

set_option maxRecDepth 16384

noncomputable section

namespace Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rows before a block: the state's at the start of a batch entry, the carry's slot later. -/
def prior (i : grid0.Coords) (st : Vec F S1x2x512 .f32) (X : Vec F S6x8x512 .f32) : Vec F S1x8x512 .f32 :=
  if (i 1).val = 0 then ini st else slot X (i 2)

/-- The row sums after a point. -/
def sums (i : grid0.Coords) (C : Vec F S1024x1024 .f32) (x1 : Vec F S1x1024x1024 .f32) (xA : Vec F S1024x1024 .f32) : Vec F S1024x1024 .f32 :=
  if (i 2).val = 0 then k0_pay1 C x1 else k0_pay2 C xA

/-- The first result's block after a point: written at the last column tile only. -/
def closed (i : grid0.Coords) (A : Vec F S1024x1024 .f32) (x11 : Vec F S1x1024 .f32) (y : Vec F S1x1024x1024 .f32) : Vec F S1x1024x1024 .f32 :=
  if (i 2).val = 5 then k0_pay3 A x11 else y

set_option maxHeartbeats 4000000 in
/-- The body at any point. -/
theorem runAll (c : Dev nD) (i : grid0.Coords) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (closed i (sums i (ctr x0 x2 x3 x4 x5 x6 x7 x8 (prior i x9 xU) (prior i x10 xG)) x1 xA) x11 y12) ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (sums i (ctr x0 x2 x3 x4 x5 x6 x7 x8 (prior i x9 xU) (prior i x10 xG)) x1 xA) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases g1 : (i 1).val = 0
  · by_cases g3 : (i 2).val = 0
    · have g5 : ¬ (i 2).val = 5 := by omega
      unfold prior sums closed; simp only [if_pos g1, if_pos g3, if_neg g5]
      exact runA c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
    · by_cases g5 : (i 2).val = 5
      · unfold prior sums closed; simp only [if_pos g1, if_neg g3, if_pos g5]
        exact runC c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
      · unfold prior sums closed; simp only [if_pos g1, if_neg g3, if_neg g5]
        exact runB c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
  · by_cases g3 : (i 2).val = 0
    · have g5 : ¬ (i 2).val = 5 := by omega
      unfold prior sums closed; simp only [if_neg g1, if_pos g3, if_neg g5]
      exact runD c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
    · by_cases g5 : (i 2).val = 5
      · unfold prior sums closed; simp only [if_neg g1, if_neg g3, if_pos g5]
        exact runG c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
      · unfold prior sums closed; simp only [if_neg g1, if_neg g3, if_neg g5]
        exact runE c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K

end Cert.Kernel4.Gen

end
-- ==== Proof.FfnSpec.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import Idealize.ShloMosaic.Lib.VecWindow
public import Idealize.ShloMosaic.Lib.WritesUnit
public import Idealize.ShloMosaic.Lib.Pointwise

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The array `X` with the box at `off` of extents `size` overwritten by `w`. -/
def put {s : Shape} {e : EltTy} (off size : Fin s.rank → ℕ) (w : ((a : Fin s.rank) → Fin (size a)) → Elt F e) (X : Vec F s e) : Vec F s e :=
  fun y => if h : ∀ a, off a ≤ (y a).val ∧ (y a).val < off a + size a then w (Rect.unitLocal (s := s) (off := off) (size := size) y h) else X y

theorem read_put {κ : Kind} {sp : Space} {s : Shape} {e : EltTy} (v : View sig κ sp s e) (f : v.ty.Contents (Elt F)) {off size : Fin s.rank → ℕ} (off' : Fin s.rank → ℕ)
    (heq : off = off') (inb : ∀ a, off a + size a ≤ s.size a) (w : (Rect.unit off size inb).shape.Idx → Elt F e) (L : List (View.Piece (Elt F) s e)) :
    v.read (Elt F) (v.writes (Elt F) f ((⟨Rect.unit off size inb, w⟩ : View.Piece (Elt F) s e) :: L)) = put off' size w (v.read (Elt F) (v.writes (Elt F) f L)) :=
  funext fun y => View.read_writes_cons_unit v f inb w L y heq

theorem slot_inb (f : Fin 6) : ∀ a, (![f.val, 0, 0] : Fin 3 → ℕ) a + S1x8x512.size a ≤ S6x8x512.size a := by
  intro a; have := f.isLt; fin_cases a <;> simp [S1x8x512, S6x8x512] <;> omega

/-- Slot `f` of a carry. -/
def slot (X : Vec F S6x8x512 .f32) (f : Fin 6) : Vec F S1x8x512 .f32 := VecWindow.window X ![f.val, 0, 0] S1x8x512.size (slot_inb f)

/-- A carry with slot `f` overwritten. -/
def put8 (f : Fin 6) (w : Vec F S1x8x512 .f32) (X : Vec F S6x8x512 .f32) : Vec F S6x8x512 .f32 := put ![f.val, 0, 0] S1x8x512.size w X

/-- A carry with the last two rows of slot `f` overwritten. -/
def put2 (f : Fin 6) (w : Vec F S1x2x512 .f32) (X : Vec F S6x8x512 .f32) : Vec F S6x8x512 .f32 := put ![f.val, 6, 0] S1x2x512.size w X

/-- A carry at the start of a batch entry: slot `f` zero but for its last two rows, the state. -/
def init (f : Fin 6) (st : Vec F S1x2x512 .f32) (X : Vec F S6x8x512 .f32) : Vec F S6x8x512 .f32 := put2 f (k0_pay7 st) (put8 f k0_pay6 X)

theorem read_slot {κ : Kind} {sp : Space} (v : View sig κ sp S6x8x512 .f32) (f : v.ty.Contents (Elt F)) (i : grid0.Coords)
    (inb : ∀ a, k0_off3 i a + S1x8x512.size a ≤ S6x8x512.size a) :
    v.readAt (Elt F) (Rect.unit (s := S6x8x512) (k0_off3 i) S1x8x512.size inb).toLoadRect f = slot (v.read (Elt F) f) (i 2) :=
  View.readAt_unit v f inb (k0_off3_eq i) (slot_inb (i 2))

theorem read_put8 {κ : Kind} {sp : Space} (v : View sig κ sp S6x8x512 .f32) (f : v.ty.Contents (Elt F)) (i : grid0.Coords)
    (inb : ∀ a, k0_off3 i a + S1x8x512.size a ≤ S6x8x512.size a) (w : Vec F S1x8x512 .f32) (L : List (View.Piece (Elt F) S6x8x512 .f32)) :
    v.read (Elt F) (v.writes (Elt F) f (⟨Rect.unit (s := S6x8x512) (k0_off3 i) S1x8x512.size inb, w⟩ :: L)) = put8 (i 2) w (v.read (Elt F) (v.writes (Elt F) f L)) :=
  read_put v f ![(i 2).val, 0, 0] (k0_off3_eq i) inb w L

theorem read_initU {κ : Kind} {sp : Space} (v : View sig κ sp S6x8x512 .f32) (f : v.ty.Contents (Elt F)) (i : grid0.Coords)
    (inb2 : ∀ a, k0_off2 i a + S1x2x512.size a ≤ S6x8x512.size a) (inb1 : ∀ a, k0_off1 i a + S1x8x512.size a ≤ S6x8x512.size a) (w : Vec F S1x2x512 .f32) :
    v.read (Elt F) (v.writes (Elt F) f [⟨Rect.unit (s := S6x8x512) (k0_off2 i) S1x2x512.size inb2, k0_pay7 w⟩,
      ⟨Rect.unit (s := S6x8x512) (k0_off1 i) S1x8x512.size inb1, k0_pay6⟩]) = init (i 2) w (v.read (Elt F) f) :=
  (read_put v f ![(i 2).val, 6, 0] (k0_off2_eq i) inb2 (k0_pay7 w) _).trans
    (congrArg (put2 (i 2) (k0_pay7 w)) (read_put v f ![(i 2).val, 0, 0] (k0_off1_eq i) inb1 (k0_pay6 (F := F)) []))

theorem read_initG {κ : Kind} {sp : Space} (v : View sig κ sp S6x8x512 .f32) (f : v.ty.Contents (Elt F)) (i : grid0.Coords)
    (inb2 : ∀ a, k0_off5 i a + S1x2x512.size a ≤ S6x8x512.size a) (inb1 : ∀ a, k0_off4 i a + S1x8x512.size a ≤ S6x8x512.size a) (w : Vec F S1x2x512 .f32) :
    v.read (Elt F) (v.writes (Elt F) f [⟨Rect.unit (s := S6x8x512) (k0_off5 i) S1x2x512.size inb2, k0_pay17 w⟩,
      ⟨Rect.unit (s := S6x8x512) (k0_off4 i) S1x8x512.size inb1, k0_pay16⟩]) = init (i 2) w (v.read (Elt F) f) :=
  (read_put v f ![(i 2).val, 6, 0] (k0_off5_eq i) inb2 (k0_pay17 w) _).trans
    (congrArg (put2 (i 2) (k0_pay17 w)) (read_put v f ![(i 2).val, 0, 0] (k0_off4_eq i) inb1 (k0_pay16 (F := F)) []))

/-- What a slot holds at the start of a batch entry: zero but for its last two rows, the state. -/
def ini (st : Vec F S1x2x512 .f32) : Vec F S1x8x512 .f32 :=
  fun y => if h : 6 ≤ (y 1).val then k0_pay7 st (ix3 (y 0) ⟨(y 1).val - 6, by have h8 : (y 1).val < 8 := (y 1).isLt; omega⟩ (y 2)) else k0_pay6 y

theorem slot_init (f : Fin 6) (st : Vec F S1x2x512 .f32) (X : Vec F S6x8x512 .f32) : slot (init f st X) f = ini st := by
  funext y
  have h0 : (y 0).val < 1 := (y 0).isLt
  have h1 : (y 1).val < 8 := (y 1).isLt
  have h2 : (y 2).val < 512 := (y 2).isLt
  unfold slot VecWindow.window init put2 put8 put ini
  by_cases h : 6 ≤ (y 1).val
  · rw [dif_pos h, dif_pos (by intro a; fin_cases a <;> simp [S1x2x512] <;> omega)]
    refine congrArg (k0_pay7 st) (funext fun a => Fin.ext ?_)
    fin_cases a <;> simp [Rect.unitLocal_val] <;> rfl
  · rw [dif_neg h, dif_neg (by intro hh; have := hh 1; simp [S1x2x512] at this; omega), dif_pos (by intro a; fin_cases a <;> simp [S1x8x512] <;> omega)]
    refine congrArg (k0_pay6 (F := F)) (funext fun a => Fin.ext ?_)
    fin_cases a <;> simp [Rect.unitLocal_val]

theorem put8_init (f : Fin 6) (w : Vec F S1x8x512 .f32) (st : Vec F S1x2x512 .f32) (X : Vec F S6x8x512 .f32) : put8 f w (init f st X) = put8 f w X := by
  funext y
  have h1 : (y 1).val < 8 := (y 1).isLt
  have h2 : (y 2).val < 512 := (y 2).isLt
  unfold init put2 put8 put
  by_cases h : (y 0).val = f.val
  · have hall : ∀ a, (![f.val, 0, 0] : Fin 3 → ℕ) a ≤ (y a).val ∧ (y a).val < (![f.val, 0, 0] : Fin 3 → ℕ) a + S1x8x512.size a := by
      intro a; fin_cases a <;> simp [S1x8x512] <;> omega
    rw [dif_pos hall, dif_pos hall]
  · rw [dif_neg (by intro hh; have := hh 0; simp [S1x8x512] at this; omega), dif_neg (by intro hh; have := hh 0; simp [S1x8x512] at this; omega),
      dif_neg (by intro hh; have := hh 0; simp [S1x2x512] at this; omega),
      dif_neg (by intro hh; have := hh 0; simp [S1x8x512] at this; omega)]

theorem slot_init_at (i : grid0.Coords) (st : Vec F S1x2x512 .f32) (X : Vec F S6x8x512 .f32) : slot (init (i 2) st X) (i 2) = ini st := slot_init (i 2) st X

theorem put8_init_at (i : grid0.Coords) (w : Vec F S1x8x512 .f32) (st : Vec F S1x2x512 .f32) (X : Vec F S6x8x512 .f32) : put8 (i 2) w (init (i 2) st X) = put8 (i 2) w X :=
  put8_init (i 2) w st X

/-- A carry just written at slot `f` reads there what was written … -/
theorem slot_put8 (f : Fin 6) (w : Vec F S1x8x512 .f32) (X : Vec F S6x8x512 .f32) : slot (put8 f w X) f = w := by
  funext y
  have h0 : (y 0).val < 1 := (y 0).isLt
  have h1 : (y 1).val < 8 := (y 1).isLt
  have h2 : (y 2).val < 512 := (y 2).isLt
  unfold slot VecWindow.window put8 put
  rw [dif_pos (by intro a; fin_cases a <;> simp [S1x8x512] <;> omega)]
  refine congrArg w (funext fun a => Fin.ext ?_)
  fin_cases a <;> simp [Rect.unitLocal_val]

/-- … and at the others what it held. -/
theorem slot_put8_ne (f g : Fin 6) (hfg : g ≠ f) (w : Vec F S1x8x512 .f32) (X : Vec F S6x8x512 .f32) : slot (put8 f w X) g = slot X g := by
  funext y
  have h0 : (y 0).val < 1 := (y 0).isLt
  have hn : g.val ≠ f.val := fun h => hfg (Fin.ext h)
  unfold slot VecWindow.window put8 put
  rw [dif_neg (by intro hh; have := hh 0; simp [S1x8x512] at this; omega)]

/-- The convolved `u` of a block. -/
def convU (x0 : Vec F S1x1024x1024 .bf16) (x2 : Vec F S1024x512 .bf16) (x4 : Vec F S3x512 .f32) (x6 : Vec F S1x512 .f32) (p : Vec F S1x8x512 .f32) : Vec F S1024x512 .f32 :=
  k0_pay12 (k0_pay8 p) (k0_pay9 x0 x2 p x4 x6) (k0_pay10 x4) (k0_pay11 x0 x2) (iota .tc S8x1 32 [0] iota_S8x1_d0_w32) 2#32

/-- What a point adds to the row sums. -/
def ctr (x0 : Vec F S1x1024x1024 .bf16) (x2 x3 : Vec F S1024x512 .bf16) (x4 x5 : Vec F S3x512 .f32) (x6 x7 : Vec F S1x512 .f32) (x8 : Vec F S512x1024 .bf16)
    (p q : Vec F S1x8x512 .f32) : Vec F S1024x1024 .f32 :=
  k0_pay23 (convU x0 x2 x4 x6 p) (k0_pay15 (k0_pay4 x0) x3) (k0_pay18 q) x5 (k0_pay19 (k0_pay4 x0) x3 x5 x7) (k0_pay20 x5) 1#32 x8

theorem cond1_iff : ∀ i : grid0.Coords, k0_cond1 i = 1#1 ↔ (i 1).val = 0 := by decide +kernel
theorem cond2_iff : ∀ i : grid0.Coords, k0_cond2 i = 1#1 ↔ (i 1).val = 0 := by decide +kernel
theorem cond3_iff : ∀ i : grid0.Coords, Scalar.cmpi .ne (Scalar.extui (Scalar.cmpi .eq (BitVec.ofNat 32 (i 2).val) 0#32) : BitVec 32) 0#32 = 1#1 ↔ (i 2).val = 0 := by decide +kernel
theorem cond4_iff : ∀ i : grid0.Coords, Scalar.cmpi .ne (Scalar.extui (Scalar.cmpi .sgt (BitVec.ofNat 32 (i 2).val) 0#32) : BitVec 32) 0#32 = 1#1 ↔ ¬ (i 2).val = 0 := by decide +kernel
theorem cond5_iff : ∀ i : grid0.Coords, k0_cond5 i = 1#1 ↔ (i 2).val = 5 := by decide +kernel

end Cert.Kernel4Ideal.Gen

end
-- ==== Proof.FfnRunA.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import proofs.«01_k».proof.Proof.FfnSpec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a point with the first row block and the first column tile. -/
theorem runA (c : Dev nD) (i : grid0.Coords) (g1 : (i 1).val = 0) (g3 : (i 2).val = 0) (g5 : ¬ (i 2).val = 5) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (k0_pay1 (ctr x0 x2 x3 x4 x5 x6 x7 x8 (ini x9) (ini x10)) x1) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    have h1 := (cond1_iff i).mpr g1
    have h2 := (cond2_iff i).mpr g1
    have h3 := (cond3_iff i).mpr g3
    have h4 := fun h => (cond4_iff i).mp h g3
    have h5 := fun h => g5 ((cond5_iff i).mp h)
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      exact harg15.read_unread _
    isplitl [H13]
    · iexists _; isplitr; swap; · iexact H13
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H14]
    · iexists _; isplitr; swap; · iexact H14
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H15]
    · iexists _; isplitr; swap; · iexact H15
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H16]
    · iexists _; isplitr; swap; · iexact H16
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    · iexists _; isplitr; swap; · iexact H17
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
end Cert.Kernel4Ideal.Gen

end
-- ==== Proof.FfnRunB.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import proofs.«01_k».proof.Proof.FfnSpec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a point with the first row block and an inner column tile. -/
theorem runB (c : Dev nD) (i : grid0.Coords) (g1 : (i 1).val = 0) (g3 : ¬ (i 2).val = 0) (g5 : ¬ (i 2).val = 5) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (k0_pay2 (ctr x0 x2 x3 x4 x5 x6 x7 x8 (ini x9) (ini x10)) xA) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    have h1 := (cond1_iff i).mpr g1
    have h2 := (cond2_iff i).mpr g1
    have h3 := fun h => g3 ((cond3_iff i).mp h)
    have h4 := (cond4_iff i).mpr g3
    have h5 := fun h => g5 ((cond5_iff i).mp h)
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      exact harg15.read_unread _
    isplitl [H13]
    · iexists _; isplitr; swap; · iexact H13
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H14]
    · iexists _; isplitr; swap; · iexact H14
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H15]
    · iexists _; isplitr; swap; · iexact H15
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H16]
    · iexists _; isplitr; swap; · iexact H16
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    · iexists _; isplitr; swap; · iexact H17
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
end Cert.Kernel4Ideal.Gen

end
-- ==== Proof.FfnRunC.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import proofs.«01_k».proof.Proof.FfnSpec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a point with the first row block and the last column tile. -/
theorem runC (c : Dev nD) (i : grid0.Coords) (g1 : (i 1).val = 0) (g3 : ¬ (i 2).val = 0) (g5 : (i 2).val = 5) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (k0_pay3 (k0_pay2 (ctr x0 x2 x3 x4 x5 x6 x7 x8 (ini x9) (ini x10)) xA) x11) ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (k0_pay2 (ctr x0 x2 x3 x4 x5 x6 x7 x8 (ini x9) (ini x10)) xA) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    have h1 := (cond1_iff i).mpr g1
    have h2 := (cond2_iff i).mpr g1
    have h3 := fun h => g3 ((cond3_iff i).mp h)
    have h4 := (cond4_iff i).mpr g3
    have h5 := (cond5_iff i).mpr g5
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H13]
    · iexists _; isplitr; swap; · iexact H13
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H14]
    · iexists _; isplitr; swap; · iexact H14
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H15]
    · iexists _; isplitr; swap; · iexact H15
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H16]
    · iexists _; isplitr; swap; · iexact H16
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    · iexists _; isplitr; swap; · iexact H17
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
end Cert.Kernel4Ideal.Gen

end
-- ==== Proof.FfnRunD.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import proofs.«01_k».proof.Proof.FfnSpec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a point with a later row block and the first column tile. -/
theorem runD (c : Dev nD) (i : grid0.Coords) (g1 : ¬ (i 1).val = 0) (g3 : (i 2).val = 0) (g5 : ¬ (i 2).val = 5) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (k0_pay1 (ctr x0 x2 x3 x4 x5 x6 x7 x8 (slot xU (i 2)) (slot xG (i 2))) x1) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    have h1 := fun h => g1 ((cond1_iff i).mp h)
    have h2 := fun h => g1 ((cond2_iff i).mp h)
    have h3 := (cond3_iff i).mpr g3
    have h4 := fun h => (cond4_iff i).mp h g3
    have h5 := fun h => g5 ((cond5_iff i).mp h)
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      exact harg15.read_unread _
    isplitl [H13]
    · iexists _; isplitr; swap; · iexact H13
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H14]
    · iexists _; isplitr; swap; · iexact H14
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H15]
    · iexists _; isplitr; swap; · iexact H15
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H16]
    · iexists _; isplitr; swap; · iexact H16
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    · iexists _; isplitr; swap; · iexact H17
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
end Cert.Kernel4Ideal.Gen

end
-- ==== Proof.FfnRunE.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import proofs.«01_k».proof.Proof.FfnSpec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a point with a later row block and an inner column tile. -/
theorem runE (c : Dev nD) (i : grid0.Coords) (g1 : ¬ (i 1).val = 0) (g3 : ¬ (i 2).val = 0) (g5 : ¬ (i 2).val = 5) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (k0_pay2 (ctr x0 x2 x3 x4 x5 x6 x7 x8 (slot xU (i 2)) (slot xG (i 2))) xA) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    have h1 := fun h => g1 ((cond1_iff i).mp h)
    have h2 := fun h => g1 ((cond2_iff i).mp h)
    have h3 := fun h => g3 ((cond3_iff i).mp h)
    have h4 := (cond4_iff i).mpr g3
    have h5 := fun h => g5 ((cond5_iff i).mp h)
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      exact harg15.read_unread _
    isplitl [H13]
    · iexists _; isplitr; swap; · iexact H13
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H14]
    · iexists _; isplitr; swap; · iexact H14
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H15]
    · iexists _; isplitr; swap; · iexact H15
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H16]
    · iexists _; isplitr; swap; · iexact H16
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    · iexists _; isplitr; swap; · iexact H17
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
end Cert.Kernel4Ideal.Gen

end
-- ==== Proof.FfnRunG.lean ====
/-
  ONE POINT OF THE FFN. The body run through at a point of the grid, in each of its six cases (first row block or a later
  one; first, inner or last column tile): what it leaves in the result blocks, in the row sums and in the two carries.
-/
module

public import proofs.«01_k».proof.Proof.Gen.Kernel4Ideal.Frame
public import proofs.«01_k».proof.Proof.Gen.Kernel4Ideal.Skeleton
public import proofs.«01_k».proof.Proof.FfnSpec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body at a point with a later row block and the last column tile. -/
theorem runG (c : Dev nD) (i : grid0.Coords) (g1 : ¬ (i 1).val = 0) (g3 : ¬ (i 2).val = 0) (g5 : (i 2).val = 5) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (k0_pay3 (k0_pay2 (ctr x0 x2 x3 x4 x5 x6 x7 x8 (slot xU (i 2)) (slot xG (i 2))) xA) x11) ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (k0_pay2 (ctr x0 x2 x3 x4 x5 x6 x7 x8 (slot xU (i 2)) (slot xG (i 2))) xA) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    have h1 := fun h => g1 ((cond1_iff i).mp h)
    have h2 := fun h => g1 ((cond2_iff i).mp h)
    have h3 := fun h => g3 ((cond3_iff i).mp h)
    have h4 := (cond4_iff i).mpr g3
    have h5 := (cond5_iff i).mpr g5
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H13]
    · iexists _; isplitr; swap; · iexact H13
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H14]
    · iexists _; isplitr; swap; · iexact H14
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H15]
    · iexists _; isplitr; swap; · iexact H15
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    isplitl [H16]
    · iexists _; isplitr; swap; · iexact H16
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
    · iexists _; isplitr; swap; · iexact H17
      ipureintro
      sl_unfold_run_names
      repeat rw [View.read_writes_full]
      repeat rw [View.readAt_writes_full]
      repeat rw [View.readAt_full]
      try unfold View.readCov
      repeat rw [View.readAt_writes_full]
      repeat rw [View.readAt_full]
      repeat rw [read_slot]
      repeat rw [read_put8]
      repeat rw [read_initU]
      repeat rw [read_initG]
      repeat rw [slot_init_at]
      repeat rw [put8_init_at]
      repeat rw [View.writes_nil]
      repeat rw [Memref.IsWhole.read_unread]
      try unfold ctr convU
      try exact put8_init _ _ _ _
      try with_reducible rfl
end Cert.Kernel4Ideal.Gen

end
-- ==== Proof.FfnStep.lean ====
/-
  ONE POINT OF THE FFN, ALL CASES: the six runs of the body put together, what it leaves stated by cases on the coordinates.
-/
module

public import proofs.«01_k».proof.Proof.FfnRunA
public import proofs.«01_k».proof.Proof.FfnRunB
public import proofs.«01_k».proof.Proof.FfnRunC
public import proofs.«01_k».proof.Proof.FfnRunD
public import proofs.«01_k».proof.Proof.FfnRunE
public import proofs.«01_k».proof.Proof.FfnRunG
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rows before a block: the state's at the start of a batch entry, the carry's slot later. -/
def prior (i : grid0.Coords) (st : Vec F S1x2x512 .f32) (X : Vec F S6x8x512 .f32) : Vec F S1x8x512 .f32 :=
  if (i 1).val = 0 then ini st else slot X (i 2)

/-- The row sums after a point. -/
def sums (i : grid0.Coords) (C : Vec F S1024x1024 .f32) (x1 : Vec F S1x1024x1024 .f32) (xA : Vec F S1024x1024 .f32) : Vec F S1024x1024 .f32 :=
  if (i 2).val = 0 then k0_pay1 C x1 else k0_pay2 C xA

/-- The first result's block after a point: written at the last column tile only. -/
def closed (i : grid0.Coords) (A : Vec F S1024x1024 .f32) (x11 : Vec F S1x1024 .f32) (y : Vec F S1x1024x1024 .f32) : Vec F S1x1024x1024 .f32 :=
  if (i 2).val = 5 then k0_pay3 A x11 else y

set_option maxHeartbeats 4000000 in
/-- The body at any point. -/
theorem runAll (c : Dev nD) (i : grid0.Coords) (arg3 : Memref sig .tc .vmem S1x1024x1024 .bf16) (harg3 : arg3.IsWhole) (arg4 : Memref sig .tc .vmem S1x1024x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1024 .bf16) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1x2x512 .f32) (harg16 : arg16.IsWhole) (arg17 : Memref sig .tc .vmem S1x2x512 .f32) (harg17 : arg17.IsWhole) (arg18 : Memref sig .tc .vmem S1024x1024 .f32) (harg18 : arg18.IsWhole) (arg19 : Memref sig .tc .vmem S6x8x512 .f32) (harg19 : arg19.IsWhole) (arg20 : Memref sig .tc .vmem S6x8x512 .f32) (harg20 : arg20.IsWhole)
    (x0 : Vec F S1x1024x1024 .bf16) (x1 : Vec F S1x1024x1024 .f32) (x2 : Vec F S1024x512 .bf16) (x3 : Vec F S1024x512 .bf16) (x4 : Vec F S3x512 .f32) (x5 : Vec F S3x512 .f32) (x6 : Vec F S1x512 .f32) (x7 : Vec F S1x512 .f32) (x8 : Vec F S512x1024 .bf16) (x9 : Vec F S1x2x512 .f32) (x10 : Vec F S1x2x512 .f32) (x11 : Vec F S1x1024 .f32) (xA : Vec F S1024x1024 .f32) (xU : Vec F S6x8x512 .f32) (xG : Vec F S6x8x512 .f32) (y12 : Vec F S1x1024x1024 .f32) (y13 : Vec F S1x2x512 .f32) (y14 : Vec F S1x2x512 .f32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare y14 ∗ owns (c : Thread nD τ) arg18 fullShare xA ∗ owns (c : Thread nD τ) arg19 fullShare xU ∗ owns (c : Thread nD τ) arg20 fullShare xG
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (closed i (sums i (ctr x0 x2 x3 x4 x5 x6 x7 x8 (prior i x9 xU) (prior i x10 xG)) x1 xA) x11 y12) ∗ owns (c : Thread nD τ) arg16 fullShare (k0_pay14 (k0_pay5 x0 x2)) ∗ owns (c : Thread nD τ) arg17 fullShare (k0_pay22 (k0_pay15 (k0_pay4 x0) x3)) ∗ owns (c : Thread nD τ) arg18 fullShare (sums i (ctr x0 x2 x3 x4 x5 x6 x7 x8 (prior i x9 xU) (prior i x10 xG)) x1 xA) ∗ owns (c : Thread nD τ) arg19 fullShare (put8 (i 2) (k0_pay13 (k0_pay5 x0 x2)) xU) ∗ owns (c : Thread nD τ) arg20 fullShare (put8 (i 2) (k0_pay21 (k0_pay15 (k0_pay4 x0) x3)) xG)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases g1 : (i 1).val = 0
  · by_cases g3 : (i 2).val = 0
    · have g5 : ¬ (i 2).val = 5 := by omega
      unfold prior sums closed; simp only [if_pos g1, if_pos g3, if_neg g5]
      exact runA c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
    · by_cases g5 : (i 2).val = 5
      · unfold prior sums closed; simp only [if_pos g1, if_neg g3, if_pos g5]
        exact runC c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
      · unfold prior sums closed; simp only [if_pos g1, if_neg g3, if_neg g5]
        exact runB c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
  · by_cases g3 : (i 2).val = 0
    · have g5 : ¬ (i 2).val = 5 := by omega
      unfold prior sums closed; simp only [if_neg g1, if_pos g3, if_neg g5]
      exact runD c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
    · by_cases g5 : (i 2).val = 5
      · unfold prior sums closed; simp only [if_neg g1, if_neg g3, if_pos g5]
        exact runG c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K
      · unfold prior sums closed; simp only [if_neg g1, if_neg g3, if_neg g5]
        exact runE c i g1 g3 g5 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 xA xU xG y12 y13 y14 E K

end Cert.Kernel4Ideal.Gen

end
-- ==== Proof.FfnFrame.lean ====
/-
  THE FFN'S GRID: what each point finds and leaves, the pipeline's proof data, the run and the frame.
-/
module

public import proofs.«01_k».proof.Proof.FfnStep

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each point finds and leaves -/

theorem coords_2 : ∀ t : Fin cfg0.N, ((grid0.coords t) 2).val = t.val % 6 := by decide +kernel
theorem coords_1 : ∀ t : Fin cfg0.N, ((grid0.coords t) 1).val = t.val / 6 % 8 := by decide +kernel
theorem coords_0 : ∀ t : Fin cfg0.N, ((grid0.coords t) 0).val = t.val / 48 := by decide +kernel

/-- The point of number `n`. -/
def pt (n : ℕ) : Fin cfg0.N := ⟨n % 192, lt_of_lt_of_eq (Nat.mod_lt _ (by decide)) N_0.symm⟩

theorem pt_val (t : Fin cfg0.N) : pt t.val = t := Fin.ext (Nat.mod_eq_of_lt (lt_of_lt_of_eq t.isLt N_0))

/-- The same column tile of the row block before. -/
def back (t : Fin cfg0.N) : Fin cfg0.N := ⟨t.val - 6, lt_of_le_of_lt (Nat.sub_le _ _) t.isLt⟩

/-- The block of `u` computed at a point, -/
def up (c : Dev nD) (t : Fin cfg0.N) : Vec F S1024x512 .f32 := k0_pay5 (iblk m c 0 t) (iblk m c 2 t)
/-- and of the gate. -/
def gt (c : Dev nD) (t : Fin cfg0.N) : Vec F S1024x512 .f32 := k0_pay15 (k0_pay4 (iblk m c 0 t)) (iblk m c 3 t)

/-- The rows of `u` before a block, -/
def priorU (c : Dev nD) (t : Fin cfg0.N) : Vec F S1x8x512 .f32 :=
  if ((grid0.coords t) 1).val = 0 then ini (iblk m c 9 t) else k0_pay13 (up m c (back t))
/-- and of the gate. -/
def priorG (c : Dev nD) (t : Fin cfg0.N) : Vec F S1x8x512 .f32 :=
  if ((grid0.coords t) 1).val = 0 then ini (iblk m c 10 t) else k0_pay21 (gt m c (back t))

/-- What a point adds to the row sums. -/
def term (c : Dev nD) (t : Fin cfg0.N) : Vec F S1024x1024 .f32 :=
  ctr (iblk m c 0 t) (iblk m c 2 t) (iblk m c 3 t) (iblk m c 4 t) (iblk m c 5 t) (iblk m c 6 t) (iblk m c 7 t) (iblk m c 8 t) (priorU m c t) (priorG m c t)

/-- The row sums after point `n`. -/
def acc (c : Dev nD) : ℕ → Vec F S1024x1024 .f32
  | 0 => k0_pay1 (term m c (pt 0)) (iblk m c 1 (pt 0))
  | n + 1 => sums (grid0.coords (pt (n + 1))) (term m c (pt (n + 1))) (iblk m c 1 (pt (n + 1))) (acc c n)

/-- What is known of the scratch before point `n`: the row sums, and the slots of the last six points. -/
def Known (c : Dev nD) (n : ℕ) (xA : Vec F S1024x1024 .f32) (xU xG : Vec F S6x8x512 .f32) : Prop :=
  (0 < n → xA = acc m c (n - 1)) ∧ ∀ s : Fin cfg0.N, s.val < n → n ≤ s.val + 6 →
    slot xU ((grid0.coords s) 2) = k0_pay13 (up m c s) ∧ slot xG ((grid0.coords s) 2) = k0_pay21 (gt m c s)

theorem known_zero (c : Dev nD) (xA : Vec F S1024x1024 .f32) (xU xG : Vec F S6x8x512 .f32) : Known m c 0 xA xU xG :=
  ⟨fun h => absurd h (Nat.lt_irrefl 0), fun s h => absurd h (Nat.not_lt_zero _)⟩

theorem coords_2_back (t : Fin cfg0.N) (h : 6 ≤ t.val) : (grid0.coords (back t)) 2 = (grid0.coords t) 2 :=
  Fin.ext (by rw [coords_2, coords_2]; show (t.val - 6) % 6 = _; omega)

theorem prior_U (c : Dev nD) (t : Fin cfg0.N) (xA : Vec F S1024x1024 .f32) (xU xG : Vec F S6x8x512 .f32) (h : Known m c t.val xA xU xG) :
    prior (grid0.coords t) (iblk m c 9 t) xU = priorU m c t := by
  unfold prior priorU
  by_cases h1 : ((grid0.coords t) 1).val = 0
  · rw [if_pos h1, if_pos h1]
  · rw [if_neg h1, if_neg h1]
    have h6 : 6 ≤ t.val := by rw [coords_1] at h1; omega
    rw [← coords_2_back t h6]
    exact (h.2 (back t) (by show t.val - 6 < _; omega) (by show _ ≤ t.val - 6 + 6; omega)).1

theorem prior_G (c : Dev nD) (t : Fin cfg0.N) (xA : Vec F S1024x1024 .f32) (xU xG : Vec F S6x8x512 .f32) (h : Known m c t.val xA xU xG) :
    prior (grid0.coords t) (iblk m c 10 t) xG = priorG m c t := by
  unfold prior priorG
  by_cases h1 : ((grid0.coords t) 1).val = 0
  · rw [if_pos h1, if_pos h1]
  · rw [if_neg h1, if_neg h1]
    have h6 : 6 ≤ t.val := by rw [coords_1] at h1; omega
    rw [← coords_2_back t h6]
    exact (h.2 (back t) (by show t.val - 6 < _; omega) (by show _ ≤ t.val - 6 + 6; omega)).2

theorem sums_acc (c : Dev nD) (t : Fin cfg0.N) (xA : Vec F S1024x1024 .f32) (xU xG : Vec F S6x8x512 .f32) (h : Known m c t.val xA xU xG) :
    sums (grid0.coords t) (term m c t) (iblk m c 1 t) xA = acc m c t.val := by
  obtain ⟨n, hn⟩ := t
  cases n with
  | zero =>
    have e : (⟨0, hn⟩ : Fin cfg0.N) = pt 0 := Fin.ext rfl
    show _ = k0_pay1 _ _
    rw [e]; unfold sums
    rw [if_pos (show ((grid0.coords (pt 0)) 2).val = 0 from coords_2 (pt 0))]
  | succ k =>
    have e : (⟨k + 1, hn⟩ : Fin cfg0.N) = pt (k + 1) := (pt_val ⟨k + 1, hn⟩).symm
    have hA : xA = acc m c k := h.1 (Nat.succ_pos k)
    show _ = sums _ _ _ (acc m c k)
    rw [hA, e]

theorem known_succ (c : Dev nD) (t : Fin cfg0.N) (xA : Vec F S1024x1024 .f32) (xU xG : Vec F S6x8x512 .f32) (h : Known m c t.val xA xU xG) :
    Known m c (t.val + 1) (acc m c t.val) (put8 ((grid0.coords t) 2) (k0_pay13 (up m c t)) xU) (put8 ((grid0.coords t) 2) (k0_pay21 (gt m c t)) xG) := by
  refine ⟨fun _ => rfl, fun s hs hs6 => ?_⟩
  by_cases e : s = t
  · subst e; exact ⟨slot_put8 _ _ _, slot_put8 _ _ _⟩
  · have hv : s.val ≠ t.val := fun h => e (Fin.ext h)
    have hne : (grid0.coords s) 2 ≠ (grid0.coords t) 2 := fun hh => by
      have := congrArg Fin.val hh; rw [coords_2, coords_2] at this; omega
    have := h.2 s (by omega) (by omega)
    exact ⟨(slot_put8_ne _ _ hne _ _).trans this.1, (slot_put8_ne _ _ hne _ _).trans this.2⟩

/-! ## The pipeline's proof data -/

abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x512 .f32 := win0_14.stage (cfg0.slots t 14)
abbrev hs0_14 (t : Fin cfg0.N) : (ms0_14 t).IsWhole := hstage0_14 ((cfg0.slots t 14).cast nbuf0_14)
abbrev scM0_0 : Memref sig .tc .vmem S1024x1024 .f32 := Memref.whole cc0_scratch0
abbrev scM0_1 : Memref sig .tc .vmem S6x8x512 .f32 := Memref.whole cc0_scratch1
abbrev scM0_2 : Memref sig .tc .vmem S6x8x512 .f32 := Memref.whole cc0_scratch2

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What holds between the points: the scratch at what is known of it, the generator register at anything. -/
def between (c : Dev nD) (n : ℕ) : sProp (MT nD τ sig Unit (Elt F) ℕ (UR sig nD τ) ℕ) :=
  iprop((∃ xA xU xG, ⌜Known m c n xA xU xG⌝ ∗ owns (c : Thread nD τ) scM0_0 fullShare xA ∗ owns (c : Thread nD τ) scM0_1 fullShare xU ∗ owns (c : Thread nD τ) scM0_2 fullShare xG) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => k0_pay3 (acc m c t.val) (iblk m c 11 t)
    | ⟨13, _⟩ => k0_pay14 (up m c t)
    | ⟨14, _⟩ => k0_pay22 (gt m c t)
  Φ k := between m c k.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = k0_pay3 (acc m c t.val) (iblk m c 11 t) := by dsimp only [dats]
theorem after0_13 (c : Dev nD) (t : Fin cfg0.N) : (dats m 0 c).after 13 t = k0_pay14 (up m c t) := by dsimp only [dats]
theorem after0_14 (c : Dev nD) (t : Fin cfg0.N) : (dats m 0 c).after 14 t = k0_pay22 (gt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem idle_12 : ∀ t : Fin cfg0.N, idle0 12 (grid0.coords t) = !decide (t.val % 6 = 5) := by decide +kernel
theorem flush_12 : ∀ t : Fin cfg0.N, (win0 12).flush t = decide (t.val % 6 = 5) := by decide +kernel

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (match cfg0.idle 12 (grid0.coords t) with
        | true =>
          match (cfg0.win 12).flush t with
          | false => iprop(∃ d, owns (c : Thread nD τ) (ms0_12 t) fullShare ((dats m 0 c).before 12 t d))
          | true => owns (c : Thread nD τ) (ms0_12 t) fullShare ((dats m 0 c).after 12 t)
        | false => owns (c : Thread nD τ) (ms0_12 t) fullShare ((dats m 0 c).after 12 t))
    ∗ owns (c : Thread nD τ) (ms0_13 t) fullShare ((dats m 0 c).after 13 t)
    ∗ owns (c : Thread nD τ) (ms0_14 t) fullShare ((dats m 0 c).after 14 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.castSucc = between m c t.val from rfl, show (dats m 0 c).Φ t.succ = between m c (t.val + 1) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, idle_12, flush_12]
  unfold between
  iintro ⟨⟨⟨%xA, %xU, %xG, %hI, HA, HU, HG⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runAll c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xA xU xG ((dats m 0 c).before 12 t d12) ((dats m 0 c).before 13 t d13) ((dats m 0 c).before 14 t d14) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HA]; · iexact HA
  isplitl [HU]; · iexact HU
  isplitl [HG]; · iexact HG
  rw [prior_U m c t xA xU xG hI, prior_G m c t xA xU xG hI]
  rw [show sums (grid0.coords t) (ctr (iblk m c 0 t) (iblk m c 2 t) (iblk m c 3 t) (iblk m c 4 t) (iblk m c 5 t) (iblk m c 6 t) (iblk m c 7 t) (iblk m c 8 t) (priorU m c t) (priorG m c t)) (iblk m c 1 t) xA = acc m c t.val from sums_acc m c t xA xU xG hI]
  iintro ⟨H0, H1, H2, H3, H4, H5, H6, H7, H8, H9, H10, H11, H12, H13, H14, HA, HU, HG⟩
  isplitl [HA HU HG Hg]
  · isplitl [HA HU HG]
    · iexists _; iexists _; iexists _
      isplitr
      · ipureintro; exact known_succ m c t xA xU xG hI
      isplitl [HA]
      · iexact HA
      isplitl [HU]
      · iexact HU
      iexact HG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold closed
    by_cases h5 : t.val % 6 = 5
    · rw [if_pos ((coords_2 t).trans h5), decide_eq_true h5, Bool.not_true]
      iexact H12
    · rw [if_neg (fun h => h5 ((coords_2 t).symm.trans h)), decide_eq_false h5, Bool.not_false]
      iexists d12; iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem start (c : Dev nD) : (Pipeline.ΦA spec0 c : sProp (MT nD τ sig Unit (Elt F) ℕ (UR sig nD τ) ℕ)) ⊢ (dats m 0 c).Φ 0 := by
  rw [show (dats m 0 c).Φ 0 = between m c 0 from rfl, PhiA0_eq]
  unfold between
  iintro ⟨⟨⟨%xA, HA⟩, ⟨%xU, HU⟩, ⟨%xG, HG⟩⟩, Hg⟩
  isplitl [HA HU HG]
  · iexists xA; iexists xU; iexists xG
    isplitr
    · ipureintro; exact known_zero m c xA xU xG
    isplitl [HA]
    · iexact HA
    isplitl [HU]
    · iexact HU
    iexact HG
  iexact Hg

theorem finish (c : Dev nD) : (dats m 0 c).Φ (Fin.last cfg0.N) ⊢ (Pipeline.ΦA spec0 c : sProp (MT nD τ sig Unit (Elt F) ℕ (UR sig nD τ) ℕ)) := by
  rw [show (dats m 0 c).Φ (Fin.last cfg0.N) = between m c cfg0.N from rfl, PhiA0_eq]
  unfold between
  iintro ⟨⟨%xA, %xU, %xG, %hI, HA, HU, HG⟩, Hg⟩
  isplitl [HA HU HG]
  · isplitl [HA]
    · iexists _; iexact HA
    isplitl [HU]
    · iexists _; iexact HU
    iexists _; iexact HG
  iexact Hg

set_option backward.isDefEq.respectTransparency.types false in
/-- The run, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := start m) (hout := finish m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel4Ideal.Gen

end
-- ==== Proof.FfnPoint.lean ====
/-
  THE FFN'S BLOCKS, entry by entry: the convolution of a block with the rows before it, and what a point adds to the row sums.
-/
module

public import proofs.«01_k».proof.Proof.Norm
public import proofs.«01_k».proof.Proof.FfnSpec
public import Idealize.ShloMosaic.Lib.Pipeline.ValueKit
public import Idealize.ShloMosaic.Lib.KernelVsHost

@[expose] public section
set_option maxRecDepth 16384
noncomputable section
open Idealize.ShloMosaic Idealize.ShloMosaic.TcCoe Idealize.SL.Sem
namespace Cert.Kernel4Ideal.Point
open Cert.Kernel4Ideal Cert.Kernel4Ideal.Gen Cert.Rows

/-- A block moved down by one row, the row before it at the top. -/
def sh1 (a : FVec Ideal S1024x512 .f32) (q : FVec Ideal S8x512 .f32) : FVec Ideal S1024x512 .f32 :=
  concatenate S1024x512 0 [⟨S8x512, select (broadcastTo S8x512 (shapeCast S8x1 (cmpi .slt (iota .tc S8x1 32 [0] iota_S8x1_d0_w32) (broadcast S8x1 1#32)) shapeCasts_S8x1_S8x1) broadcasts_S8x1_S8x512)
      (dynamicRotate 0 1#32 none q rotates_S8x512_d0) (extractStridedSlice S8x512 ![0, 0] (dynamicRotate 0 1#32 none a rotates_S1024x512_d0) slices_S1024x512_o0_0_S8x512)⟩,
    ⟨S1016x512, extractStridedSlice S1016x512 ![8, 0] (dynamicRotate 0 1#32 none a rotates_S1024x512_d0) slices_S1024x512_o8_0_S1016x512⟩] concatenates_S8x512_S1016x512_S1024x512_d0

/-- A block moved down by two rows. -/
def sh2 (a : FVec Ideal S1024x512 .f32) (q : FVec Ideal S8x512 .f32) : FVec Ideal S1024x512 .f32 :=
  concatenate S1024x512 0 [⟨S8x512, select (broadcastTo S8x512 (shapeCast S8x1 (cmpi .slt (iota .tc S8x1 32 [0] iota_S8x1_d0_w32) (broadcast S8x1 2#32)) shapeCasts_S8x1_S8x1) broadcasts_S8x1_S8x512)
      (dynamicRotate 0 2#32 none q rotates_S8x512_d0) (extractStridedSlice S8x512 ![0, 0] (dynamicRotate 0 2#32 none a rotates_S1024x512_d0) slices_S1024x512_o0_0_S8x512)⟩,
    ⟨S1016x512, extractStridedSlice S1016x512 ![8, 0] (dynamicRotate 0 2#32 none a rotates_S1024x512_d0) slices_S1024x512_o8_0_S1016x512⟩] concatenates_S8x512_S1016x512_S1024x512_d0

/-- The convolution of a block. -/
def cv (a : FVec Ideal S1024x512 .f32) (q : FVec Ideal S8x512 .f32) (w : FVec Ideal S3x512 .f32) (b : FVec Ideal S1x512 .f32) : FVec Ideal S1024x512 .f32 :=
  addf (addf (addf (mulf (broadcastTo S1024x512 (extractStridedSlice S1x512 ![2, 0] w slices_S3x512_o2_0_S1x512) broadcasts_S1x512_S1024x512) a)
        (broadcastTo S1024x512 (shapeCast S1x512 b shapeCasts_S1x512_S1x512) broadcasts_S1x512_S1024x512))
      (mulf (broadcastTo S1024x512 (extractStridedSlice S1x512 ![1, 0] w slices_S3x512_o1_0_S1x512) broadcasts_S1x512_S1024x512) (sh1 a q)))
    (mulf (broadcastTo S1024x512 (extractStridedSlice S1x512 ![0, 0] w slices_S3x512_o0_0_S1x512) broadcasts_S1x512_S1024x512) (sh2 a q))

/-- What a point adds to the row sums, of the two convolutions. -/
def prodOf (G U : FVec Ideal S1024x512 .f32) (x8 : Vec Ideal S512x1024 .bf16) : FVec Ideal S1024x1024 .f32 :=
  have w : FVec Ideal S512x1024 .bf16 := shapeCast S512x1024 x8 shapeCasts_S512x1024_S512x1024
  matmul dot_S1024x512_S512x1024_S1024x1024_1_0_0_1_n_n none (truncf .bf16 (mulf (mulf G (logistic G)) U) bitsLt_bf16_f32) w (constant S1024x1024 .f32 0x00000000#32)

theorem ctr_eq (x0 : Vec Ideal S1x1024x1024 .bf16) (x2 x3 : Vec Ideal S1024x512 .bf16) (x4 x5 : Vec Ideal S3x512 .f32) (x6 x7 : Vec Ideal S1x512 .f32) (x8 : Vec Ideal S512x1024 .bf16)
    (p q : Vec Ideal S1x8x512 .f32) :
    ctr x0 x2 x3 x4 x5 x6 x7 x8 p q = prodOf (cv (k0_pay15 (k0_pay4 x0) x3) (k0_pay18 q) x5 x7) (cv (k0_pay5 x0 x2) (k0_pay8 p) x4 x6) x8 := rfl

theorem prodOf_at (G U : FVec Ideal S1024x512 .f32) (x8 : Vec Ideal S512x1024 .bf16) (r d : Fin 1024) :
    prodOf G U x8 (ix2 r d) = ∑ j : Fin 512, G (ix2 r j) * Ideal.logistic (G (ix2 r j)) * U (ix2 r j) * x8 (ix2 j d) := by
  unfold prodOf
  pointwise

theorem up_at (x0 : Vec Ideal S1x1024x1024 .bf16) (x2 : Vec Ideal S1024x512 .bf16) (r : Fin 1024) (e : Fin 512) :
    k0_pay5 (F := Ideal) x0 x2 (ix2 r e) = ∑ k : Fin 1024, x0 (ix3 0 r k) * x2 (ix2 k e) := by
  unfold k0_pay5 k0_pay4
  pointwise

theorem gate_at (x0 : Vec Ideal S1x1024x1024 .bf16) (x3 : Vec Ideal S1024x512 .bf16) (r : Fin 1024) (e : Fin 512) :
    k0_pay15 (F := Ideal) (k0_pay4 x0) x3 (ix2 r e) = ∑ k : Fin 1024, x0 (ix3 0 r k) * x3 (ix2 k e) := by
  unfold k0_pay15 k0_pay4
  pointwise

theorem first_at (C : FVec Ideal S1024x1024 .f32) (x1 : Vec Ideal S1x1024x1024 .f32) (r d : Fin 1024) :
    k0_pay1 (F := Ideal) C x1 (ix2 r d) = x1 (ix3 0 r d) + C (ix2 r d) := by
  unfold k0_pay1
  pointwise

theorem next_at (C A : FVec Ideal S1024x1024 .f32) (r d : Fin 1024) :
    k0_pay2 (F := Ideal) C A (ix2 r d) = A (ix2 r d) + C (ix2 r d) := by
  unfold k0_pay2
  pointwise

theorem norm_at (A : FVec Ideal S1024x1024 .f32) (x11 : Vec Ideal S1x1024 .f32) (r d : Fin 1024) :
    k0_pay3 (F := Ideal) A x11 (ix3 0 r d) = rowNorm (fun d => A (ix2 r d)) (fun d => x11 (ix2 0 d)) d := by
  unfold k0_pay3 rowNorm
  pointwise

theorem tail_at (a : FVec Ideal S1024x512 .f32) (j : Fin 2) (e : Fin 512) :
    k0_pay14 (F := Ideal) a (ix3 0 j e) = a (ix2 ⟨1022 + j.val, by omega⟩ e) := by
  unfold k0_pay14
  pointwise

theorem tailG_at (a : FVec Ideal S1024x512 .f32) (j : Fin 2) (e : Fin 512) :
    k0_pay22 (F := Ideal) a (ix3 0 j e) = a (ix2 ⟨1022 + j.val, by omega⟩ e) := by
  unfold k0_pay22
  pointwise

/-- The last two rows of a slot at the start of a batch entry are the state, -/
theorem slot_first (s : Vec Ideal S1x2x512 .f32) (j : Fin 2) (e : Fin 512) :
    k0_pay8 (F := Ideal) (ini s) (ix2 ⟨6 + j.val, by omega⟩ e) = s (ix3 0 j e) := by
  unfold k0_pay8
  have h : ini (F := Ideal) s (ix3 0 ⟨6 + j.val, by omega⟩ e) = s (ix3 0 j e) := by
    unfold ini
    refine (dif_pos (show 6 ≤ 6 + j.val by omega)).trans ?_
    have e3 : (ix3 ((ix3 (0 : Fin 1) (⟨6 + j.val, by omega⟩ : Fin 8) e : S1x8x512.Idx) 0) ⟨((ix3 (0 : Fin 1) (⟨6 + j.val, by omega⟩ : Fin 8) e : S1x8x512.Idx) 1).val - 6, by show 6 + j.val - 6 < 2; omega⟩
        ((ix3 (0 : Fin 1) (⟨6 + j.val, by omega⟩ : Fin 8) e : S1x8x512.Idx) 2) : S1x2x512.Idx) = ix3 0 j e := by
      funext a; fin_cases a
      · rfl
      · exact Fin.ext (show 6 + j.val - 6 = j.val by omega)
      · rfl
    refine (congrArg (k0_pay7 (F := Ideal) s) e3).trans ?_
    unfold k0_pay7
    pointwise
  pointwise [h]

/-- and later the last two rows of the block before. -/
theorem slot_next (a : FVec Ideal S1024x512 .f32) (j : Fin 2) (e : Fin 512) :
    k0_pay8 (F := Ideal) (k0_pay13 a) (ix2 ⟨6 + j.val, by omega⟩ e) = a (ix2 ⟨1022 + j.val, by omega⟩ e) := by
  unfold k0_pay8 k0_pay13
  pointwise
  exact congrArg a (congrArg (fun z => ix2 z e) (Fin.ext (by show 1016 + (6 + j.val) = 1022 + j.val; omega)))

theorem slot_firstG (s : Vec Ideal S1x2x512 .f32) (j : Fin 2) (e : Fin 512) :
    k0_pay18 (F := Ideal) (ini s) (ix2 ⟨6 + j.val, by omega⟩ e) = s (ix3 0 j e) := slot_first s j e

theorem slot_nextG (a : FVec Ideal S1024x512 .f32) (j : Fin 2) (e : Fin 512) :
    k0_pay18 (F := Ideal) (k0_pay21 a) (ix2 ⟨6 + j.val, by omega⟩ e) = a (ix2 ⟨1022 + j.val, by omega⟩ e) := slot_next a j e

theorem below1 : ∀ r : Fin 8, IntOp.cmpi .slt (BitVec.ofNat 32 r.val) 1#32 = if r.val < 1 then 1#1 else 0#1 := by decide
theorem below2 : ∀ r : Fin 8, IntOp.cmpi .slt (BitVec.ofNat 32 r.val) 2#32 = if r.val < 2 then 1#1 else 0#1 := by decide

theorem sh1_at (a : FVec Ideal S1024x512 .f32) (q : FVec Ideal S8x512 .f32) (r : Fin 1024) (e : Fin 512) (P : ℕ → EReal)
    (hq : ∀ j : Fin 2, q (ix2 ⟨6 + j.val, by omega⟩ e) = P j.val) (ha : ∀ r : Fin 1024, a (ix2 r e) = P (r.val + 2)) :
    sh1 a q (ix2 r e) = P (r.val + 1) := by
  unfold sh1
  pointwise
  by_cases h8 : r.val < 8
  · rw [dif_pos h8, below1 ⟨r.val, h8⟩]
    by_cases h1 : r.val < 1
    · rw [if_pos h1]
      refine Eq.trans (congrArg q (congrArg (fun z => ix2 z e) (Fin.ext ?_))) ((hq 1).trans (congrArg P ?_))
      · show (r.val + 8 - 1) % 8 = 6 + 1; omega
      · show 1 = r.val + 1; omega
    · rw [if_neg h1]
      refine (ha _).trans (congrArg P ?_)
      show (r.val + 1024 - 1) % 1024 + 2 = r.val + 1; omega
  · rw [dif_neg h8]
    refine (ha _).trans (congrArg P ?_)
    show (8 + (r.val - 8) + 1024 - 1) % 1024 + 2 = r.val + 1; omega

theorem sh2_at (a : FVec Ideal S1024x512 .f32) (q : FVec Ideal S8x512 .f32) (r : Fin 1024) (e : Fin 512) (P : ℕ → EReal)
    (hq : ∀ j : Fin 2, q (ix2 ⟨6 + j.val, by omega⟩ e) = P j.val) (ha : ∀ r : Fin 1024, a (ix2 r e) = P (r.val + 2)) :
    sh2 a q (ix2 r e) = P r.val := by
  unfold sh2
  pointwise
  by_cases h8 : r.val < 8
  · rw [dif_pos h8, below2 ⟨r.val, h8⟩]
    by_cases h1 : r.val < 2
    · rw [if_pos h1]
      refine Eq.trans (congrArg q (congrArg (fun z => ix2 z e) (Fin.ext ?_))) (hq ⟨r.val, h1⟩)
      show (r.val + 8 - 2) % 8 = 6 + r.val; omega
    · rw [if_neg h1]
      refine (ha _).trans (congrArg P ?_)
      show (r.val + 1024 - 2) % 1024 + 2 = r.val; omega
  · rw [dif_neg h8]
    refine (ha _).trans (congrArg P ?_)
    show (8 + (r.val - 8) + 1024 - 2) % 1024 + 2 = r.val; omega

/-- The convolution of a block whose column, with the two rows before it, is `P`. -/
theorem cv_at (a : FVec Ideal S1024x512 .f32) (q : FVec Ideal S8x512 .f32) (w : FVec Ideal S3x512 .f32) (b : FVec Ideal S1x512 .f32) (r : Fin 1024) (e : Fin 512) (P : ℕ → EReal)
    (hq : ∀ j : Fin 2, q (ix2 ⟨6 + j.val, by omega⟩ e) = P j.val) (ha : ∀ r : Fin 1024, a (ix2 r e) = P (r.val + 2)) :
    cv a q w b (ix2 r e) = P r.val * w (ix2 0 e) + P (r.val + 1) * w (ix2 1 e) + P (r.val + 2) * w (ix2 2 e) + b (ix2 0 e) := by
  have h : cv a q w b (ix2 r e) = w (ix2 2 e) * a (ix2 r e) + b (ix2 0 e) + w (ix2 1 e) * sh1 a q (ix2 r e) + w (ix2 0 e) * sh2 a q (ix2 r e) := by
    unfold cv
    pointwise
  rw [h, sh1_at a q r e P hq ha, sh2_at a q r e P hq ha, ha r, mul_comm (w (ix2 2 e)), mul_comm (w (ix2 1 e)), mul_comm (w (ix2 0 e))]
  ac_rfl

end Cert.Kernel4Ideal.Point
end
-- ==== Proof.FfnMath.lean ====
/-
  THE FFN AS MATHEMATICS: the projections, the causal convolution over the state and the projections, the gated product,
  the residual sum; and a sum over the 3072 columns in six stretches of 512.
-/
module

public import proofs.«01_k».proof.Proof.Norm
public import Idealize.ShloMosaic.Lib.Pipeline.ValueKit

@[expose] public section
noncomputable section
open Idealize.ShloMosaic
namespace Cert.Rows

variable (H : (⟨3, ![4, 8192, 1024]⟩ : Shape).Idx → EReal) (X : (⟨3, ![4, 8192, 1024]⟩ : Shape).Idx → EReal) (W : (⟨2, ![1024, 6144]⟩ : Shape).Idx → EReal)
  (cw : (⟨2, ![3, 6144]⟩ : Shape).Idx → EReal) (cb : (⟨1, ![6144]⟩ : Shape).Idx → EReal) (D : (⟨2, ![3072, 1024]⟩ : Shape).Idx → EReal)
  (st : (⟨3, ![4, 2, 6144]⟩ : Shape).Idx → EReal) (g : (⟨1, ![1024]⟩ : Shape).Idx → EReal)

/-- The projection of position `l` of batch entry `b`, at column `e`. -/
def lin (b : Fin 4) (l : Fin 8192) (e : Fin 6144) : EReal := ∑ k : Fin 1024, H (ix3 b l k) * W (ix2 k e)

/-- The projections with the state before them. -/
def padded (b : Fin 4) (e : Fin 6144) (n : ℕ) : EReal :=
  if h : n < 2 then st (ix3 b ⟨n, h⟩ e) else if h' : n - 2 < 8192 then lin H W b ⟨n - 2, h'⟩ e else 0

/-- The convolution. -/
def conv (b : Fin 4) (l : ℕ) (e : Fin 6144) : EReal :=
  padded H W st b e l * cw (ix2 0 e) + padded H W st b e (l + 1) * cw (ix2 1 e) + padded H W st b e (l + 2) * cw (ix2 2 e) + cb (ix1 e)

/-- The gated product. -/
def gated (b : Fin 4) (l : ℕ) (j : Fin 3072) : EReal :=
  conv H W cw cb st b l ⟨3072 + j.val, by omega⟩ * Ideal.logistic (conv H W cw cb st b l ⟨3072 + j.val, by omega⟩) * conv H W cw cb st b l ⟨j.val, by omega⟩

/-- The residual sum. -/
def ffnRow (b : Fin 4) (l : Fin 8192) (d : Fin 1024) : EReal :=
  X (ix3 b l d) + ∑ j : Fin 3072, gated H W cw cb st b l.val j * D (ix2 j d)

/-- The first result. -/
def ffnOut : (⟨3, ![4, 8192, 1024]⟩ : Shape).Idx → EReal :=
  fun y => rowNorm (ffnRow H X W cw cb D st (y 0) (y 1)) (fun d => g (ix1 d)) (y 2)

theorem ffnOut_at (b : Fin 4) (l : Fin 8192) (d : Fin 1024) : ffnOut H X W cw cb D st g (ix3 b l d) = rowNorm (ffnRow H X W cw cb D st b l) (fun d => g (ix1 d)) d := rfl

/-- The new state: the last two projections, the first half of the columns … -/
def tailU : (⟨3, ![4, 2, 3072]⟩ : Shape).Idx → EReal :=
  fun y => lin H W (y 0) ⟨8190 + (y 1).val, by have h : (y 1).val < 2 := (y 1).isLt; omega⟩ ⟨(y 2).val, by have h : (y 2).val < 3072 := (y 2).isLt; omega⟩

/-- … and the second. -/
def tailG : (⟨3, ![4, 2, 3072]⟩ : Shape).Idx → EReal :=
  fun y => lin H W (y 0) ⟨8190 + (y 1).val, by have h : (y 1).val < 2 := (y 1).isLt; omega⟩ ⟨3072 + (y 2).val, by have h : (y 2).val < 3072 := (y 2).isLt; omega⟩

/-- A sum over 3072 columns, tile by tile. -/
theorem sum_tiles (f : Fin 3072 → EReal) : ∑ j, f j = ∑ s : Fin 6, ∑ k : Fin 512, f ⟨512 * s.val + k.val, by omega⟩ := by
  have h := Equiv.sum_comp (finProdFinEquiv : Fin 6 × Fin 512 ≃ Fin (6 * 512)) (fun j : Fin (6 * 512) => f j)
  refine Eq.trans h.symm ?_
  rw [Fintype.sum_prod_type]
  refine Finset.sum_congr rfl fun s _ => Finset.sum_congr rfl fun k _ => congrArg f (Fin.ext ?_)
  show k.val + 512 * s.val = 512 * s.val + k.val
  omega

end Cert.Rows
end
-- ==== Proof.FfnBlocks.lean ====
/-
  THE FFN'S STAGED BLOCKS: where each window's block lies in its argument.
-/
module

public import proofs.«01_k».proof.Proof.FfnMath
public import proofs.«01_k».proof.Proof.Gen.Kernel4Ideal.Frame
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.Kernel4Ideal.Blocks
open Cert.Kernel4Ideal Cert.Kernel4Ideal.Gen Cert.Rows

variable (m : (ℓ : Loc nD τ sig) → Buf (Elt Ideal) ℓ)

theorem index_0 : ∀ t : Fin cfg0.N, win0_0.index t = ![(grid0.coords t 0).val, (grid0.coords t 1).val, 0] := by decide +kernel
theorem index_1 : ∀ t : Fin cfg0.N, win0_1.index t = ![(grid0.coords t 0).val, (grid0.coords t 1).val, 0] := by decide +kernel
theorem index_2 : ∀ t : Fin cfg0.N, win0_2.index t = ![0, (grid0.coords t 2).val] := by decide +kernel
theorem index_3 : ∀ t : Fin cfg0.N, win0_3.index t = ![0, 6 + (grid0.coords t 2).val] := by decide +kernel
theorem index_4 : ∀ t : Fin cfg0.N, win0_4.index t = ![0, (grid0.coords t 2).val] := by decide +kernel
theorem index_5 : ∀ t : Fin cfg0.N, win0_5.index t = ![0, 6 + (grid0.coords t 2).val] := by decide +kernel
theorem index_6 : ∀ t : Fin cfg0.N, win0_6.index t = ![0, (grid0.coords t 2).val] := by decide +kernel
theorem index_7 : ∀ t : Fin cfg0.N, win0_7.index t = ![0, 6 + (grid0.coords t 2).val] := by decide +kernel
theorem index_8 : ∀ t : Fin cfg0.N, win0_8.index t = ![(grid0.coords t 2).val, 0] := by decide +kernel
theorem index_9 : ∀ t : Fin cfg0.N, win0_9.index t = ![(grid0.coords t 0).val, 0, (grid0.coords t 2).val] := by decide +kernel
theorem index_10 : ∀ t : Fin cfg0.N, win0_10.index t = ![(grid0.coords t 0).val, 0, 6 + (grid0.coords t 2).val] := by decide +kernel
theorem index_11 : ∀ t : Fin cfg0.N, win0_11.index t = ![0, 0] := by decide +kernel
theorem index_12 : ∀ t : Fin cfg0.N, win0_12.index t = ![(grid0.coords t 0).val, (grid0.coords t 1).val, 0] := by decide +kernel
theorem index_13 : ∀ t : Fin cfg0.N, win0_13.index t = ![(grid0.coords t 0).val, 0, (grid0.coords t 2).val] := by decide +kernel
theorem index_14 : ∀ t : Fin cfg0.N, win0_14.index t = ![(grid0.coords t 0).val, 0, (grid0.coords t 2).val] := by decide +kernel

/-- Batch entry, row and column of a point's block. -/
abbrev bat (t : Fin cfg0.N) : Fin 4 := ⟨(grid0.coords t 0).val, (grid0.coords t 0).isLt⟩
theorem row_lt (t : Fin cfg0.N) (r : Fin 1024) : 1024 * (grid0.coords t 1).val + r.val < 8192 := by
  have h : (grid0.coords t 1).val < 8 := (grid0.coords t 1).isLt
  omega
abbrev pos (t : Fin cfg0.N) (r : Fin 1024) : Fin 8192 := ⟨1024 * (grid0.coords t 1).val + r.val, row_lt t r⟩
theorem col_lt (t : Fin cfg0.N) (e : Fin 512) : 512 * (grid0.coords t 2).val + e.val < 3072 := by
  have h : (grid0.coords t 2).val < 6 := (grid0.coords t 2).isLt
  omega
abbrev col (t : Fin cfg0.N) (e : Fin 512) : Fin 3072 := ⟨512 * (grid0.coords t 2).val + e.val, col_lt t e⟩
abbrev colU (t : Fin cfg0.N) (e : Fin 512) : Fin 6144 := ⟨(col t e).val, Nat.lt_trans (col t e).isLt (by decide)⟩
abbrev colG (t : Fin cfg0.N) (e : Fin 512) : Fin 6144 := ⟨3072 + (col t e).val, Nat.add_lt_add_left (col t e).isLt 3072⟩

theorem iblk_0 (c : Dev nD) (t : Fin cfg0.N) (r k : Fin 1024) :
    iblk m c 0 t (ix3 0 r k) = m ((c : Thread nD τ).loc main_arg0) (ix3 (bat t) (pos t r) k) := by
  blk_simp [iblk]
  unfold V
  after_reads_at
  show m (c, Proc.tc.devRef main_arg0) _ = m (c, Proc.tc.devRef main_arg0) (ix3 (bat t) (pos t r) k)
  blk_ext [index_0 t]

theorem iblk_1 (c : Dev nD) (t : Fin cfg0.N) (r k : Fin 1024) :
    iblk m c 1 t (ix3 0 r k) = m ((c : Thread nD τ).loc main_arg1) (ix3 (bat t) (pos t r) k) := by
  blk_simp [iblk]
  unfold V
  after_reads_at
  show m (c, Proc.tc.devRef main_arg1) _ = m (c, Proc.tc.devRef main_arg1) (ix3 (bat t) (pos t r) k)
  blk_ext [index_1 t]

theorem iblk_2 (c : Dev nD) (t : Fin cfg0.N) (k : Fin 1024) (e : Fin 512) :
    iblk m c 2 t (ix2 k e) = m ((c : Thread nD τ).loc main_arg2) (ix2 k (colU t e)) := by
  blk_simp [iblk]
  unfold V
  after_reads_at
  show m (c, Proc.tc.devRef main_arg2) _ = m (c, Proc.tc.devRef main_arg2) (ix2 k (colU t e))
  blk_ext [index_2 t]

theorem iblk_3 (c : Dev nD) (t : Fin cfg0.N) (k : Fin 1024) (e : Fin 512) :
    iblk m c 3 t (ix2 k e) = m ((c : Thread nD τ).loc main_arg2) (ix2 k (colG t e)) := by
  blk_simp [iblk]
  unfold V
  after_reads_at
  show m (c, Proc.tc.devRef main_arg2) _ = m (c, Proc.tc.devRef main_arg2) (ix2 k (colG t e))
  blk_ext [index_3 t]

theorem iblk_4 (c : Dev nD) (t : Fin cfg0.N) (k : Fin 3) (e : Fin 512) :
    iblk m c 4 t (ix2 k e) = m ((c : Thread nD τ).loc main_arg3) (ix2 k (colU t e)) := by
  blk_simp [iblk]
  unfold V
  after_reads_at
  show m (c, Proc.tc.devRef main_arg3) _ = m (c, Proc.tc.devRef main_arg3) (ix2 k (colU t e))
  blk_ext [index_4 t]

theorem iblk_5 (c : Dev nD) (t : Fin cfg0.N) (k : Fin 3) (e : Fin 512) :
    iblk m c 5 t (ix2 k e) = m ((c : Thread nD τ).loc main_arg3) (ix2 k (colG t e)) := by
  blk_simp [iblk]
  unfold V
  after_reads_at
  show m (c, Proc.tc.devRef main_arg3) _ = m (c, Proc.tc.devRef main_arg3) (ix2 k (colG t e))
  blk_ext [index_5 t]

theorem iblk_6 (c : Dev nD) (t : Fin cfg0.N) (e : Fin 512) :
    iblk m c 6 t (ix2 0 e) = m ((c : Thread nD τ).loc main_arg4) (ix1 (colU t e)) := by
  blk_simp [iblk]
  unfold V
  after_reads_at
  show m (c, Proc.tc.devRef main_arg4) _ = m (c, Proc.tc.devRef main_arg4) (ix1 (colU t e))
  blk_ext [index_6 t]

theorem iblk_7 (c : Dev nD) (t : Fin cfg0.N) (e : Fin 512) :
    iblk m c 7 t (ix2 0 e) = m ((c : Thread nD τ).loc main_arg4) (ix1 (colG t e)) := by
  blk_simp [iblk]
  unfold V
  after_reads_at
  show m (c, Proc.tc.devRef main_arg4) _ = m (c, Proc.tc.devRef main_arg4) (ix1 (colG t e))
  blk_ext [index_7 t]

theorem iblk_8 (c : Dev nD) (t : Fin cfg0.N) (e : Fin 512) (d : Fin 1024) :
    iblk m c 8 t (ix2 e d) = m ((c : Thread nD τ).loc main_arg5) (ix2 (col t e) d) := by
  blk_simp [iblk]
  unfold V
  after_reads_at
  show m (c, Proc.tc.devRef main_arg5) _ = m (c, Proc.tc.devRef main_arg5) (ix2 (col t e) d)
  blk_ext [index_8 t]

theorem iblk_9 (c : Dev nD) (t : Fin cfg0.N) (j : Fin 2) (e : Fin 512) :
    iblk m c 9 t (ix3 0 j e) = m ((c : Thread nD τ).loc main_arg6) (ix3 (bat t) j (colU t e)) := by
  blk_simp [iblk]
  unfold V
  after_reads_at
  show m (c, Proc.tc.devRef main_arg6) _ = m (c, Proc.tc.devRef main_arg6) (ix3 (bat t) j (colU t e))
  blk_ext [index_9 t]

theorem iblk_10 (c : Dev nD) (t : Fin cfg0.N) (j : Fin 2) (e : Fin 512) :
    iblk m c 10 t (ix3 0 j e) = m ((c : Thread nD τ).loc main_arg6) (ix3 (bat t) j (colG t e)) := by
  blk_simp [iblk]
  unfold V
  after_reads_at
  show m (c, Proc.tc.devRef main_arg6) _ = m (c, Proc.tc.devRef main_arg6) (ix3 (bat t) j (colG t e))
  blk_ext [index_10 t]

theorem iblk_11 (c : Dev nD) (t : Fin cfg0.N) (d : Fin 1024) :
    iblk m c 11 t (ix2 0 d) = m ((c : Thread nD τ).loc main_arg7) (ix1 d) := by
  blk_simp [iblk]
  unfold V
  after_reads_at
  show m (c, Proc.tc.devRef main_arg7) _ = m (c, Proc.tc.devRef main_arg7) (ix1 d)
  blk_ext [index_11 t]

end Cert.Kernel4Ideal.Blocks
end
-- ==== Proof.FfnSums.lean ====
/-
  THE FFN'S ROW SUMS: what each point computes, in the arguments of the call, and the sums over the column tiles.
-/
module

public import proofs.«01_k».proof.Proof.FfnFrame
public import proofs.«01_k».proof.Proof.FfnPoint
public import proofs.«01_k».proof.Proof.FfnBlocks
public import proofs.«01_k».proof.Proof.FfnMath
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.Kernel4Ideal.Ffn
open Cert.Kernel4Ideal Cert.Kernel4Ideal.Gen Cert.Rows Cert.Kernel4Ideal.Point Cert.Kernel4Ideal.Blocks

variable (m : (ℓ : Loc nD τ sig) → Buf (Elt Ideal) ℓ)

/-- The arguments of the call. -/
abbrev aH (c : Dev nD) : (⟨3, ![4, 8192, 1024]⟩ : Shape).Idx → EReal := m ((c : Thread nD τ).loc main_arg0)
abbrev aX (c : Dev nD) : (⟨3, ![4, 8192, 1024]⟩ : Shape).Idx → EReal := m ((c : Thread nD τ).loc main_arg1)
abbrev aW (c : Dev nD) : (⟨2, ![1024, 6144]⟩ : Shape).Idx → EReal := m ((c : Thread nD τ).loc main_arg2)
abbrev aK (c : Dev nD) : (⟨2, ![3, 6144]⟩ : Shape).Idx → EReal := m ((c : Thread nD τ).loc main_arg3)
abbrev aB (c : Dev nD) : (⟨1, ![6144]⟩ : Shape).Idx → EReal := m ((c : Thread nD τ).loc main_arg4)
abbrev aD (c : Dev nD) : (⟨2, ![3072, 1024]⟩ : Shape).Idx → EReal := m ((c : Thread nD τ).loc main_arg5)
abbrev aS (c : Dev nD) : (⟨3, ![4, 2, 6144]⟩ : Shape).Idx → EReal := m ((c : Thread nD τ).loc main_arg6)
abbrev aG (c : Dev nD) : (⟨1, ![1024]⟩ : Shape).Idx → EReal := m ((c : Thread nD τ).loc main_arg7)

theorem bat_back (t : Fin cfg0.N) (h : ¬((grid0.coords t) 1).val = 0) : bat (back t) = bat t := Fin.ext (by
  rw [coords_1] at h
  show ((grid0.coords (back t)) 0).val = ((grid0.coords t) 0).val
  rw [coords_0, coords_0]
  show (t.val - 6) / 48 = t.val / 48
  omega)

theorem six_le (t : Fin cfg0.N) (h : ¬((grid0.coords t) 1).val = 0) : 6 ≤ t.val := by
  rw [coords_1] at h; omega

theorem rows_back (t : Fin cfg0.N) (h : ¬((grid0.coords t) 1).val = 0) : ((grid0.coords (back t)) 1).val + 1 = ((grid0.coords t) 1).val := by
  rw [coords_1] at h
  rw [coords_1, coords_1]
  show (t.val - 6) / 6 % 8 + 1 = t.val / 6 % 8
  omega

/-- A point's block of the projection, -/
theorem lin_U (c : Dev nD) (t : Fin cfg0.N) (r : Fin 1024) (e : Fin 512) :
    up m c t (ix2 r e) = lin (aH m c) (aW m c) (bat t) (pos t r) (colU t e) := by
  unfold up lin
  rw [up_at]
  exact Finset.sum_congr rfl fun k _ => congrArg₂ (· * ·) (iblk_0 m c t r k) (iblk_2 m c t k e)

/-- read with the state before it, -/
theorem block_U (c : Dev nD) (t : Fin cfg0.N) (r : Fin 1024) (e : Fin 512) :
    up m c t (ix2 r e) = padded (aH m c) (aW m c) (aS m c) (bat t) (colU t e) (1024 * ((grid0.coords t) 1).val + (r.val + 2)) := by
  have hr := row_lt t r
  rw [lin_U]
  unfold padded
  rw [dif_neg (by omega), dif_pos (by omega)]
  exact congrArg (fun p => lin (aH m c) (aW m c) (bat t) p (colU t e)) (Fin.ext (show 1024 * ((grid0.coords t) 1).val + r.val = 1024 * ((grid0.coords t) 1).val + (r.val + 2) - 2 by omega))

/-- and the two rows before it. -/
theorem before_U (c : Dev nD) (t : Fin cfg0.N) (j : Fin 2) (e : Fin 512) :
    k0_pay8 (priorU m c t) (ix2 ⟨6 + j.val, by omega⟩ e) = padded (aH m c) (aW m c) (aS m c) (bat t) (colU t e) (1024 * ((grid0.coords t) 1).val + j.val) := by
  have hl : ((grid0.coords t) 1).val < 8 := ((grid0.coords t) 1).isLt
  unfold priorU
  by_cases h : ((grid0.coords t) 1).val = 0
  · rw [if_pos h, slot_first, iblk_9]
    unfold padded
    rw [dif_pos (by omega)]
    exact congrArg (fun z => aS m c (ix3 (bat t) z (colU t e))) (Fin.ext (show j.val = 1024 * ((grid0.coords t) 1).val + j.val by omega))
  · have hb := rows_back t h
    rw [if_neg h, slot_next, lin_U, bat_back t h]
    have hc : colU (back t) e = colU t e := Fin.ext (by
      have h2 := congrArg Fin.val (coords_2_back t (six_le t h))
      show 512 * ((grid0.coords (back t)) 2).val + e.val = 512 * ((grid0.coords t) 2).val + e.val
      omega)
    rw [hc]
    unfold padded
    rw [dif_neg (by omega), dif_pos (by omega)]
    exact congrArg (fun p => lin (aH m c) (aW m c) (bat t) p (colU t e)) (Fin.ext (show 1024 * ((grid0.coords (back t)) 1).val + (1022 + j.val) = 1024 * ((grid0.coords t) 1).val + j.val - 2 by omega))

/-- So a point's convolution is the convolution. -/
theorem conv_U (c : Dev nD) (t : Fin cfg0.N) (r : Fin 1024) (e : Fin 512) :
    cv (k0_pay5 (iblk m c 0 t) (iblk m c 2 t)) (k0_pay8 (priorU m c t)) (iblk m c 4 t) (iblk m c 6 t) (ix2 r e)
      = conv (aH m c) (aW m c) (aK m c) (aB m c) (aS m c) (bat t) (pos t r).val (colU t e) := by
  refine (cv_at _ _ _ _ r e (fun n => padded (aH m c) (aW m c) (aS m c) (bat t) (colU t e) (1024 * ((grid0.coords t) 1).val + n)) (fun j => before_U m c t j e) (fun r => block_U m c t r e)).trans ?_
  rw [iblk_4, iblk_4, iblk_4, iblk_6]
  rfl

/-- A point's block of the projection, -/
theorem lin_G (c : Dev nD) (t : Fin cfg0.N) (r : Fin 1024) (e : Fin 512) :
    gt m c t (ix2 r e) = lin (aH m c) (aW m c) (bat t) (pos t r) (colG t e) := by
  unfold gt lin
  rw [gate_at]
  exact Finset.sum_congr rfl fun k _ => congrArg₂ (· * ·) (iblk_0 m c t r k) (iblk_3 m c t k e)

/-- read with the state before it, -/
theorem block_G (c : Dev nD) (t : Fin cfg0.N) (r : Fin 1024) (e : Fin 512) :
    gt m c t (ix2 r e) = padded (aH m c) (aW m c) (aS m c) (bat t) (colG t e) (1024 * ((grid0.coords t) 1).val + (r.val + 2)) := by
  have hr := row_lt t r
  rw [lin_G]
  unfold padded
  rw [dif_neg (by omega), dif_pos (by omega)]
  exact congrArg (fun p => lin (aH m c) (aW m c) (bat t) p (colG t e)) (Fin.ext (show 1024 * ((grid0.coords t) 1).val + r.val = 1024 * ((grid0.coords t) 1).val + (r.val + 2) - 2 by omega))

/-- and the two rows before it. -/
theorem before_G (c : Dev nD) (t : Fin cfg0.N) (j : Fin 2) (e : Fin 512) :
    k0_pay18 (priorG m c t) (ix2 ⟨6 + j.val, by omega⟩ e) = padded (aH m c) (aW m c) (aS m c) (bat t) (colG t e) (1024 * ((grid0.coords t) 1).val + j.val) := by
  have hl : ((grid0.coords t) 1).val < 8 := ((grid0.coords t) 1).isLt
  unfold priorG
  by_cases h : ((grid0.coords t) 1).val = 0
  · rw [if_pos h, slot_firstG, iblk_10]
    unfold padded
    rw [dif_pos (by omega)]
    exact congrArg (fun z => aS m c (ix3 (bat t) z (colG t e))) (Fin.ext (show j.val = 1024 * ((grid0.coords t) 1).val + j.val by omega))
  · have hb := rows_back t h
    rw [if_neg h, slot_nextG, lin_G, bat_back t h]
    have hc : colG (back t) e = colG t e := Fin.ext (by
      have h2 := congrArg Fin.val (coords_2_back t (six_le t h))
      show 3072 + (512 * ((grid0.coords (back t)) 2).val + e.val) = 3072 + (512 * ((grid0.coords t) 2).val + e.val)
      omega)
    rw [hc]
    unfold padded
    rw [dif_neg (by omega), dif_pos (by omega)]
    exact congrArg (fun p => lin (aH m c) (aW m c) (bat t) p (colG t e)) (Fin.ext (show 1024 * ((grid0.coords (back t)) 1).val + (1022 + j.val) = 1024 * ((grid0.coords t) 1).val + j.val - 2 by omega))

/-- So a point's convolution is the convolution. -/
theorem conv_G (c : Dev nD) (t : Fin cfg0.N) (r : Fin 1024) (e : Fin 512) :
    cv (k0_pay15 (k0_pay4 (iblk m c 0 t)) (iblk m c 3 t)) (k0_pay18 (priorG m c t)) (iblk m c 5 t) (iblk m c 7 t) (ix2 r e)
      = conv (aH m c) (aW m c) (aK m c) (aB m c) (aS m c) (bat t) (pos t r).val (colG t e) := by
  refine (cv_at _ _ _ _ r e (fun n => padded (aH m c) (aW m c) (aS m c) (bat t) (colG t e) (1024 * ((grid0.coords t) 1).val + n)) (fun j => before_G m c t j e) (fun r => block_G m c t r e)).trans ?_
  rw [iblk_5, iblk_5, iblk_5, iblk_7]
  rfl

/-- One column tile's share of a row of the down projection. -/
def tile (c : Dev nD) (b : Fin 4) (l : ℕ) (d : Fin 1024) (s : ℕ) : EReal :=
  if h : s < 6 then ∑ k : Fin 512, gated (aH m c) (aW m c) (aK m c) (aB m c) (aS m c) b l ⟨512 * s + k.val, by omega⟩ * aD m c (ix2 ⟨512 * s + k.val, by omega⟩ d) else 0

/-- What a point adds is its tile's share. -/
theorem term_at (c : Dev nD) (t : Fin cfg0.N) (r d : Fin 1024) :
    term m c t (ix2 r d) = tile m c (bat t) (pos t r).val d ((grid0.coords t) 2).val := by
  unfold term tile
  rw [ctr_eq, prodOf_at, dif_pos (show ((grid0.coords t) 2).val < 6 from ((grid0.coords t) 2).isLt)]
  refine Finset.sum_congr rfl fun k _ => ?_
  rw [conv_U m c t r k, conv_G m c t r k, iblk_8]
  rfl

theorem pt_num (n : ℕ) (h : n < 192) : (pt n).val = n := Nat.mod_eq_of_lt h

/-- The row sums after point `n`: the residual and the shares of the tiles so far. -/
theorem acc_at (c : Dev nD) (r d : Fin 1024) : ∀ n : ℕ, n < 192 →
    acc m c n (ix2 r d) = aX m c (ix3 (bat (pt n)) (pos (pt n) r) d) + ∑ s ∈ Finset.range (n % 6 + 1), tile m c (bat (pt n)) (pos (pt n) r).val d s
  | 0, h => by
    have h0 : ((grid0.coords (pt 0)) 2).val = 0 := coords_2 (pt 0)
    show k0_pay1 _ _ _ = _
    rw [first_at, iblk_1, term_at, h0]
    exact congrArg _ (Finset.sum_range_one _).symm
  | n + 1, h => by
    have hn := pt_num n (by omega)
    have hs := pt_num (n + 1) h
    have h2 := coords_2 (pt (n + 1))
    rw [hs] at h2
    show sums _ _ _ _ _ = _
    unfold sums
    by_cases h0 : ((grid0.coords (pt (n + 1))) 2).val = 0
    · rw [if_pos h0, first_at, iblk_1, term_at, h0, ← h2, h0]
      exact congrArg _ (Finset.sum_range_one _).symm
    · have hm : (n + 1) % 6 = n % 6 + 1 := by omega
      have eb : bat (pt n) = bat (pt (n + 1)) := Fin.ext (by
        show ((grid0.coords (pt n)) 0).val = ((grid0.coords (pt (n + 1))) 0).val
        rw [coords_0, coords_0, hn, hs]; omega)
      have ep : pos (pt n) r = pos (pt (n + 1)) r := Fin.ext (by
        show 1024 * ((grid0.coords (pt n)) 1).val + r.val = 1024 * ((grid0.coords (pt (n + 1))) 1).val + r.val
        rw [coords_1, coords_1, hn, hs]; omega)
      rw [if_neg h0, next_at, acc_at c r d n (by omega), term_at, eb, ep, h2, hm, Finset.sum_range_succ _ (n % 6 + 1), add_assoc]

/-- After the last tile: the residual sum. -/
theorem acc_last (c : Dev nD) (t : Fin cfg0.N) (h : t.val % 6 = 5) (r d : Fin 1024) :
    acc m c t.val (ix2 r d) = ffnRow (aH m c) (aX m c) (aW m c) (aK m c) (aB m c) (aD m c) (aS m c) (bat t) (pos t r) d := by
  rw [acc_at m c r d t.val (lt_of_lt_of_eq t.isLt N_0), pt_val, h]
  unfold ffnRow
  rw [sum_tiles]
  refine congrArg _ ((Finset.sum_range _).trans (Finset.sum_congr rfl fun s _ => ?_))
  unfold tile
  rw [dif_pos s.isLt]

end Cert.Kernel4Ideal.Ffn
end
-- ==== Proof.FfnValue.lean ====
/-
  THE FFN'S RESULT ARRAYS after the run, and the run with its results named.
-/
module

public import proofs.«01_k».proof.Proof.FfnSums
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.Kernel4Ideal.Ffn
open Cert.Kernel4Ideal Cert.Kernel4Ideal.Gen Cert.Rows Cert.Kernel4Ideal.Point Cert.Kernel4Ideal.Blocks

variable (m : (ℓ : Loc nD τ sig) → Buf (Elt Ideal) ℓ)

/-- The first result's array. -/
theorem array_12 (c : Dev nD) : (dats m 0 c).arrAt 12 cfg0.N = ffnOut (aH m c) (aX m c) (aW m c) (aK m c) (aB m c) (aD m c) (aS m c) (aG m c) := by
  refine (dats m 0 c).arrAt_eq_of_covers 12 _ (by decide +kernel) fun t hf y => ?_
  have h5 : t.val % 6 = 5 := of_decide_eq_true ((flush_12 t).symm.trans hf)
  blk_simp
  rw [after0_12]
  obtain ⟨r, d, rfl⟩ : ∃ (r d : Fin 1024), y = ix3 (0 : Fin 1) r d := ⟨y 1, y 2, by
    funext a; fin_cases a
    · exact Subsingleton.elim (α := Fin 1) _ _
    · rfl
    · rfl⟩
  have hy : (win0_12.blk t).view.emb (ix3 (0 : Fin 1) r d) = ix3 (bat t) (pos t r) d := by
    blk_ext [index_12 t]
  rw [hy, ffnOut_at, norm_at]
  have ha : (fun d => acc m c t.val (ix2 r d)) = ffnRow (aH m c) (aX m c) (aW m c) (aK m c) (aB m c) (aD m c) (aS m c) (bat t) (pos t r) :=
    funext fun d => acc_last m c t h5 r d
  have hg : (fun d => iblk m c 11 t (ix2 0 d)) = fun d => aG m c (ix1 d) := funext fun d => iblk_11 m c t d
  rw [ha, hg]

/-- An element whose last flushing point is `t` ends at what `t` flushed there. -/
theorem last_flush (c : Dev nD) (w : Fin cfg0.W) (t : Fin cfg0.N) (hf : (cfg0.win w).flush t = true) (y : ((cfg0.win w).xblock (cfg0.grid.coords t)).Idx)
    (hno : ∀ s : Fin cfg0.N, t.val < s.val → ((cfg0.win w).blk t).view.emb y ∉ ((cfg0.win w).blk s).view.set) :
    ∀ n : ℕ, t.val < n → (dats m 0 c).arrAt w n (((cfg0.win w).blk t).view.emb y)
      = _root_.cast (congrArg (Elt Ideal) ((cfg0.win w).blk t).view.elt_eq.symm) ((dats m 0 c).flushed w t y)
  | 0, h => absurd h (Nat.not_lt_zero _)
  | n + 1, h => by
    rw [(dats m 0 c).arrAt_succ_apply]
    by_cases e : t.val = n
    · have hn : n < cfg0.N := e ▸ t.isLt
      have et : (⟨n, hn⟩ : Fin cfg0.N) = t := Fin.ext e.symm
      rw [dif_pos hn, et, if_pos hf, View.write_emb_of_mem _ _ (Finset.mem_univ y)]
    · have ih := last_flush c w t hf y hno n (by omega)
      by_cases hn : n < cfg0.N
      · rw [dif_pos hn]
        by_cases hfn : (cfg0.win w).flush ⟨n, hn⟩ = true
        · rw [if_pos hfn, View.write_of_not_mem _ _ _ (by rw [View.setOn_univ]; exact hno ⟨n, hn⟩ (show t.val < n by omega))]
          exact ih
        · rw [if_neg hfn]; exact ih
      · rw [dif_neg hn]; exact ih

/-- The last point that flushes a column of the new state. -/
def lastPt (b : Fin 4) (d : Fin 3072) : Fin cfg0.N := pt (48 * b.val + 42 + d.val / 512)

theorem lastPt_val (b : Fin 4) (d : Fin 3072) : (lastPt b d).val = 48 * b.val + 42 + d.val / 512 := pt_num _ (by omega)

theorem bat_last (b : Fin 4) (d : Fin 3072) : bat (lastPt b d) = b := Fin.ext (by
  show ((grid0.coords (lastPt b d)) 0).val = b.val
  rw [coords_0, lastPt_val]; omega)

theorem rows_last (b : Fin 4) (d : Fin 3072) : ((grid0.coords (lastPt b d)) 1).val = 7 := by
  rw [coords_1, lastPt_val]; omega

theorem cols_last (b : Fin 4) (d : Fin 3072) : ((grid0.coords (lastPt b d)) 2).val = d.val / 512 := by
  rw [coords_2, lastPt_val]; omega

/-- No later point has the same batch entry and column tile. -/
theorem no_later (b : Fin 4) (d : Fin 3072) (s : Fin cfg0.N) (h : (lastPt b d).val < s.val) (h0 : ((grid0.coords s) 0).val = b.val) (h2 : ((grid0.coords s) 2).val = d.val / 512) : False := by
  rw [lastPt_val] at h
  rw [coords_0] at h0
  rw [coords_2] at h2
  omega

theorem flush_13 : ∀ t : Fin cfg0.N, (win0 13).flush t = true := by decide +kernel

theorem emb_13 (t : Fin cfg0.N) (j : Fin 2) (e : Fin 512) : (win0_13.blk t).view.emb (ix3 (0 : Fin 1) j e) = ix3 (bat t) j (col t e) := by
  blk_ext [index_13 t]

/-- The new state's first half. -/
theorem array_13 (c : Dev nD) : (dats m 0 c).arrAt 13 cfg0.N = tailU (aH m c) (aW m c) := by
  funext i
  obtain ⟨b, j, d, rfl⟩ : ∃ (b : Fin 4) (j : Fin 2) (d : Fin 3072), i = ix3 b j d := ⟨i 0, i 1, i 2, by funext a; fin_cases a <;> rfl⟩
  have hd : d.val % 512 < 512 := Nat.mod_lt _ (by decide)
  have hcol : col (lastPt b d) ⟨d.val % 512, hd⟩ = d := Fin.ext (by
    show 512 * ((grid0.coords (lastPt b d)) 2).val + d.val % 512 = d.val
    rw [cols_last]; omega)
  have hi : (win0_13.blk (lastPt b d)).view.emb (ix3 (0 : Fin 1) j ⟨d.val % 512, hd⟩) = ix3 b j d := by
    rw [emb_13, bat_last, hcol]
  have h := last_flush m c 13 (lastPt b d) (flush_13 _) (ix3 (0 : Fin 1) j ⟨d.val % 512, hd⟩) (fun s hs hmem => by
    obtain ⟨y, _, hy⟩ := Finset.mem_map.mp hmem
    obtain ⟨j', e', rfl⟩ : ∃ (j' : Fin 2) (e' : Fin 512), y = ix3 (0 : Fin 1) j' e' := ⟨y 1, y 2, by
      funext a; fin_cases a
      · exact Subsingleton.elim (α := Fin 1) _ _
      · rfl
      · rfl⟩
    have hz : (ix3 (bat s) j' (col s e') : (⟨3, ![4, 2, 3072]⟩ : Shape).Idx) = ix3 b j d := (emb_13 s j' e').symm.trans (hy.trans hi)
    have z0 : ((grid0.coords s) 0).val = b.val := congrArg Fin.val (congrFun hz 0)
    have z2 : 512 * ((grid0.coords s) 2).val + e'.val = d.val := congrArg Fin.val (congrFun hz 2)
    exact no_later b d s hs z0 (by omega)) cfg0.N (lastPt b d).isLt
  refine Eq.trans (congrArg ((dats m 0 c).arrAt 13 cfg0.N) hi.symm) (h.trans ?_)
  show (dats m 0 c).after 13 (lastPt b d) (ix3 (0 : Fin 1) j ⟨d.val % 512, hd⟩) = _
  rw [after0_13, tail_at, lin_U, bat_last]
  unfold tailU
  refine congrArg₂ (fun p e => lin (aH m c) (aW m c) b p e) (Fin.ext ?_) (Fin.ext ?_)
  · show 1024 * ((grid0.coords (lastPt b d)) 1).val + (1022 + j.val) = 8190 + j.val
    rw [rows_last]; omega
  · show (col (lastPt b d) ⟨d.val % 512, hd⟩).val = d.val
    rw [hcol]

theorem flush_14 : ∀ t : Fin cfg0.N, (win0 14).flush t = true := by decide +kernel

theorem emb_14 (t : Fin cfg0.N) (j : Fin 2) (e : Fin 512) : (win0_14.blk t).view.emb (ix3 (0 : Fin 1) j e) = ix3 (bat t) j (col t e) := by
  blk_ext [index_14 t]

/-- The new state's second half. -/
theorem array_14 (c : Dev nD) : (dats m 0 c).arrAt 14 cfg0.N = tailG (aH m c) (aW m c) := by
  funext i
  obtain ⟨b, j, d, rfl⟩ : ∃ (b : Fin 4) (j : Fin 2) (d : Fin 3072), i = ix3 b j d := ⟨i 0, i 1, i 2, by funext a; fin_cases a <;> rfl⟩
  have hd : d.val % 512 < 512 := Nat.mod_lt _ (by decide)
  have hcol : col (lastPt b d) ⟨d.val % 512, hd⟩ = d := Fin.ext (by
    show 512 * ((grid0.coords (lastPt b d)) 2).val + d.val % 512 = d.val
    rw [cols_last]; omega)
  have hi : (win0_14.blk (lastPt b d)).view.emb (ix3 (0 : Fin 1) j ⟨d.val % 512, hd⟩) = ix3 b j d := by
    rw [emb_14, bat_last, hcol]
  have h := last_flush m c 14 (lastPt b d) (flush_14 _) (ix3 (0 : Fin 1) j ⟨d.val % 512, hd⟩) (fun s hs hmem => by
    obtain ⟨y, _, hy⟩ := Finset.mem_map.mp hmem
    obtain ⟨j', e', rfl⟩ : ∃ (j' : Fin 2) (e' : Fin 512), y = ix3 (0 : Fin 1) j' e' := ⟨y 1, y 2, by
      funext a; fin_cases a
      · exact Subsingleton.elim (α := Fin 1) _ _
      · rfl
      · rfl⟩
    have hz : (ix3 (bat s) j' (col s e') : (⟨3, ![4, 2, 3072]⟩ : Shape).Idx) = ix3 b j d := (emb_14 s j' e').symm.trans (hy.trans hi)
    have z0 : ((grid0.coords s) 0).val = b.val := congrArg Fin.val (congrFun hz 0)
    have z2 : 512 * ((grid0.coords s) 2).val + e'.val = d.val := congrArg Fin.val (congrFun hz 2)
    exact no_later b d s hs z0 (by omega)) cfg0.N (lastPt b d).isLt
  refine Eq.trans (congrArg ((dats m 0 c).arrAt 14 cfg0.N) hi.symm) (h.trans ?_)
  show (dats m 0 c).after 14 (lastPt b d) (ix3 (0 : Fin 1) j ⟨d.val % 512, hd⟩) = _
  rw [after0_14, tailG_at, lin_G, bat_last]
  unfold tailG
  refine congrArg₂ (fun p e => lin (aH m c) (aW m c) b p e) (Fin.ext ?_) (Fin.ext ?_)
  · show 1024 * ((grid0.coords (lastPt b d)) 1).val + (1022 + j.val) = 8190 + j.val
    rw [rows_last]; omega
  · show 3072 + (col (lastPt b d) ⟨d.val % 512, hd⟩).val = 3072 + d.val
    rw [hcol]

/-- The run with its results named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v4_0) = (dats m 0 c).arrAt 12 cfg0.N
      ∧ r.2.mem ((c : Thread nD τ).loc main_v4_1) = (dats m 0 c).arrAt 13 cfg0.N
      ∧ r.2.mem ((c : Thread nD τ).loc main_v4_2) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 12, (h c).1 13, (h c).1 14,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 10).trans (((dats m 0 c).arrAt_in 10 rfl _).trans ((A_eq m c 10).trans (V_main_arg6 m c))),
      ((h c).2 main_arg7 (Pipeline.mem_restRefs_of main_arg7 (by decide) (by decide))).trans (V_main_arg7 m c)⟩)
    (run_main m ρ)

end Cert.Kernel4Ideal.Ffn
end
-- ==== Proof.FfnRef.lean ====
/-
  THE FFN, reference side: the convolution of the padded projections, the gated product, the residual sum and its norm, and
  the new state.
-/
module

public import proofs.«01_k».proof.Proof.FfnMath
public import proofs.«01_k».proof.Proof.Gen.Reference4Ideal.Run
public import Idealize.ShloMosaic.Lib.Pipeline.ValueKit

@[expose] public section
set_option maxRecDepth 16384
noncomputable section
open Idealize.ShloMosaic Idealize.ShloMosaic.TcCoe Idealize.SL.Sem
namespace Cert.Reference4Ideal.Ffn
open Cert.Reference4Ideal Cert.Reference4Ideal.Gen Cert.Rows

variable (H : FVec Ideal S4x8192x1024 .bf16) (X : FVec Ideal S4x8192x1024 .f32) (W : FVec Ideal S1024x6144 .f32) (cw : FVec Ideal S3x6144 .f32) (cb : FVec Ideal S6144 .f32)
  (D : FVec Ideal S3072x1024 .f32) (st : FVec Ideal S4x2x6144 .f32) (g : FVec Ideal S1024 .f32)

/-- The projections. -/
def proj : FVec Ideal S4x8192x6144 .f32 := Host.dotGeneral dot_S4x8192x1024_S1024x6144_S4x8192x6144_2_0_01_1_n_n none (extf .f32 H bitsLt_bf16_f32) W

/-- The state and the projections. -/
def pad : FVec Ideal S4x8194x6144 .f32 := concatenate S4x8194x6144 1 [⟨S4x2x6144, st⟩, ⟨S4x8192x6144, proj H W⟩] concatenates_S4x2x6144_S4x8192x6144_S4x8194x6144_d1

/-- The convolution. -/
def cvd : FVec Ideal S4x8192x6144 .f32 :=
  addf (addf (addf (addf (broadcastInDim S4x8192x6144 ![] bcast_S_S4x8192x6144 (constant S_ .f32 0x00000000#32)) (mulf (extractStridedSlice S4x8192x6144 ![0, 0, 0] (pad H W st) slices_S4x8194x6144_S4x8192x6144_0_0_0) (broadcastInDim S4x8192x6144 ![0, 1, 2] bcast_S1x1x6144_S4x8192x6144_0_1_2 (broadcastInDim S1x1x6144 ![2] bcast_S6144_S1x1x6144_2 (shapeCast _ (extractStridedSlice S1x6144 ![0, 0] cw slices_S3x6144_S1x6144_0_0) shapeCasts_S1x6144_S6144))))) (mulf (extractStridedSlice S4x8192x6144 ![0, 1, 0] (pad H W st) slices_S4x8194x6144_S4x8192x6144_0_1_0) (broadcastInDim S4x8192x6144 ![0, 1, 2] bcast_S1x1x6144_S4x8192x6144_0_1_2 (broadcastInDim S1x1x6144 ![2] bcast_S6144_S1x1x6144_2 (shapeCast _ (extractStridedSlice S1x6144 ![1, 0] cw slices_S3x6144_S1x6144_1_0) shapeCasts_S1x6144_S6144))))) (mulf (extractStridedSlice S4x8192x6144 ![0, 2, 0] (pad H W st) slices_S4x8194x6144_S4x8192x6144_0_2_0) (broadcastInDim S4x8192x6144 ![0, 1, 2] bcast_S1x1x6144_S4x8192x6144_0_1_2 (broadcastInDim S1x1x6144 ![2] bcast_S6144_S1x1x6144_2 (shapeCast _ (extractStridedSlice S1x6144 ![2, 0] cw slices_S3x6144_S1x6144_2_0) shapeCasts_S1x6144_S6144))))) (broadcastInDim S4x8192x6144 ![0, 1, 2] bcast_S1x1x6144_S4x8192x6144_0_1_2 (broadcastInDim S1x1x6144 ![2] bcast_S6144_S1x1x6144_2 cb))

/-- The gated product. -/
def gat : FVec Ideal S4x8192x3072 .f32 :=
  mulf (mulf (extractStridedSlice S4x8192x3072 ![0, 0, 3072] (cvd H W cw cb st) slices_S4x8192x6144_S4x8192x3072_0_0_3072) (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf (extractStridedSlice S4x8192x3072 ![0, 0, 3072] (cvd H W cw cb st) slices_S4x8192x6144_S4x8192x3072_0_0_3072)))))) (extractStridedSlice S4x8192x3072 ![0, 0, 0] (cvd H W cw cb st) slices_S4x8192x6144_S4x8192x3072_0_0_0)

/-- The residual sum. -/
def resid : FVec Ideal S4x8192x1024 .f32 :=
  addf X (Host.dotGeneral dot_S4x8192x3072_S3072x1024_S4x8192x1024_2_0_01_1_n_n none (gat H W cw cb st) D)

theorem proj_at (b : Fin 4) (l : Fin 8192) (e : Fin 6144) : proj H W (ix3 b l e) = lin H W b l e := by
  unfold proj lin
  pointwise

theorem pad_at (b : Fin 4) (n : Fin 8194) (e : Fin 6144) : pad H W st (ix3 b n e) = padded H W st b e n.val := by
  unfold pad padded
  pointwise [proj_at]
  by_cases h : n.val < 2
  · rw [dif_pos h, dif_pos h]
  · rw [dif_neg h, dif_neg h, dif_pos (by omega)]

theorem cvd_at (b : Fin 4) (l : Fin 8192) (e : Fin 6144) : cvd H W cw cb st (ix3 b l e) = conv H W cw cb st b l.val e := by
  unfold cvd conv
  pointwise [pad_at, Ideal.ofBits_zero_f32]
  rw [Nat.add_comm 1 l.val, Nat.add_comm 2 l.val]

theorem gat_at (b : Fin 4) (l : Fin 8192) (j : Fin 3072) : gat H W cw cb st (ix3 b l j) = gated H W cw cb st b l.val j := by
  unfold gat gated
  pointwise [cvd_at, Ideal.logistic]

theorem resid_at (b : Fin 4) (l : Fin 8192) (d : Fin 1024) : resid H X W cw cb D st (ix3 b l d) = ffnRow H X W cw cb D st b l d := by
  unfold resid ffnRow
  pointwise [gat_at]

/-- The first result. -/
theorem result_0 : mulf (mulf (resid H X W cw cb D st) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (resid H X W cw cb D st) (resid H X W cw cb D st)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g)) = ffnOut H X W cw cb D st g := by
  funext y
  obtain ⟨b, l, d, rfl⟩ : ∃ (b : Fin 4) (l : Fin 8192) (d : Fin 1024), y = ix3 b l d := ⟨y 0, y 1, y 2, by funext a; fin_cases a <;> rfl⟩
  rw [ffnOut_at]
  unfold rowNorm
  pointwise [resid_at]

/-- The new state, its first half … -/
theorem result_1 : (extractStridedSlice S4x2x3072 ![0, 0, 0] (extractStridedSlice S4x2x6144 ![0, 8192, 0] (pad H W st) slices_S4x8194x6144_S4x2x6144_0_8192_0) slices_S4x2x6144_S4x2x3072_0_0_0 : FVec Ideal S4x2x3072 .f32)
    = tailU H W := by
  funext y
  obtain ⟨b, l, d, rfl⟩ : ∃ (b : Fin 4) (l : Fin 2) (d : Fin 3072), y = ix3 b l d := ⟨y 0, y 1, y 2, by funext a; fin_cases a <;> rfl⟩
  pointwise [pad_at]
  unfold padded tailU
  rw [dif_neg (by omega), dif_pos (by omega)]
  exact congrArg (fun p => lin H W b p _) (Fin.ext (show 8192 + l.val - 2 = 8190 + l.val by omega))

/-- … and its second. -/
theorem result_2 : (extractStridedSlice S4x2x3072 ![0, 0, 3072] (extractStridedSlice S4x2x6144 ![0, 8192, 0] (pad H W st) slices_S4x8194x6144_S4x2x6144_0_8192_0) slices_S4x2x6144_S4x2x3072_0_0_3072 : FVec Ideal S4x2x3072 .f32)
    = tailG H W := by
  funext y
  obtain ⟨b, l, d, rfl⟩ : ∃ (b : Fin 4) (l : Fin 2) (d : Fin 3072), y = ix3 b l d := ⟨y 0, y 1, y 2, by funext a; fin_cases a <;> rfl⟩
  pointwise [pad_at]
  unfold padded tailG
  rw [dif_neg (by omega), dif_pos (by omega)]
  exact congrArg (fun p => lin H W b p _) (Fin.ext (show 8192 + l.val - 2 = 8190 + l.val by omega))

end Cert.Reference4Ideal.Ffn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Array
public import proofs.«01_k».proof.Proof.Equation
public import proofs.«01_k».proof.Proof.ProjOut
public import proofs.«01_k».proof.Proof.ProjRef
public import proofs.«01_k».proof.Proof.Outproj
public import proofs.«01_k».proof.Proof.OutprojRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.FfnBitsFrame
public import proofs.«01_k».proof.Proof.FfnFrame
public import proofs.«01_k».proof.Proof.FfnValue
public import proofs.«01_k».proof.Proof.FfnRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the idealized reference ends with its arguments as they were and every counter at zero; it
    declares no semaphore, so the second half is about nothing. -/
theorem reference_frame : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The value claim: both programs leave `callOut` of the argument arrays in their result array. -/
theorem values : Cert.algebraic_KernelIdeal_ReferenceIdeal_pre_finite := by
  intro m g m' g' hm hargs
  refine ⟨fun c => Cert.KernelIdeal.Attn.callOut (m (c.tc.loc Cert.KernelIdeal.main_arg0)) (m (c.tc.loc Cert.KernelIdeal.main_arg1)) (m (c.tc.loc Cert.KernelIdeal.main_arg2))
      (Cert.KernelIdeal.Attn.lambda (m (c.tc.loc Cert.KernelIdeal.main_arg3)) (m (c.tc.loc Cert.KernelIdeal.main_arg4)) (m (c.tc.loc Cert.KernelIdeal.main_arg5)) (m (c.tc.loc Cert.KernelIdeal.main_arg6)))
      (fun e => m (c.tc.loc Cert.KernelIdeal.main_arg7) (ix1 e)), ?_, ?_⟩
  · exact (θ_run _ _ _).mono (fun _ h c => ⟨(h c).1.trans (Cert.KernelIdeal.Attn.array_eq m c), (h c).2⟩) (Cert.KernelIdeal.Value.run_blocks m g)
  · refine (θ_run _ _ _).mono (fun _ h c => ⟨(h c).1.trans ?_, (h c).2⟩) (Cert.ReferenceIdeal.Value.run m' g')
    obtain ⟨h0, h1, h2, h3, h4, h5, h6, h7⟩ := hargs c
    refine (Cert.ReferenceIdeal.Attn.res_eq m' c ?_).trans ?_
    · rw [h0, h1, h2, h3, h4, h5, h6, h7]
      exact hm c
    · rw [h0, h1, h2, h3, h4, h5, h6, h7]

/-- Every run of the idealized reference of the input projection ends with its arguments as they were and every counter at zero. -/
theorem reference2_frame : Cert.quiescent_Reference2Ideal := fun m ρ _ =>
  (θ_run Cert.Reference2Ideal.defs _ _).mono (fun r h => ⟨fun c => (h c).2.2.2.2.2.2.2.2.2.2.2.2.2.2.2, sem_eq_zero_of_no_sems rfl r.2⟩)
    (Cert.Reference2Ideal.Value.run (F := Ideal) m ρ)

/-- Every run of the idealized reference of the output projection ends with its arguments as they were and every counter at zero. -/
theorem reference3_frame : Cert.quiescent_Reference3Ideal := fun m ρ _ =>
  (θ_run Cert.Reference3Ideal.defs _ _).mono (fun r h => ⟨fun c => (h c).2.2, sem_eq_zero_of_no_sems rfl r.2⟩)
    (Cert.Reference3Ideal.Value.run (F := Ideal) m ρ)

/-- Every run of the idealized reference of the feed-forward part ends with its arguments as they were and every counter at zero. -/
theorem reference4_frame : Cert.quiescent_Reference4Ideal := fun m ρ _ =>
  (θ_run Cert.Reference4Ideal.defs _ _).mono (fun r h => ⟨fun c => (h c).2.2.2, sem_eq_zero_of_no_sems rfl r.2⟩)
    (Cert.Reference4Ideal.Value.run (F := Ideal) m ρ)

set_option maxHeartbeats 4000000 in
/-- The value claim of the input projection: every result array of the kernel is the reference's. -/
theorem values2 : Cert.algebraic_Kernel2Ideal_Reference2Ideal := by
  intro m g m' g' hm hargs
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    fun c => (Cert.Kernel2Ideal.Gen.dats m 0 c).arrAt 17 Cert.Kernel2Ideal.cfg0.N,
    Cert.Kernel2Ideal.Value.run_blocks m g, ?_⟩
  refine (θ_run _ _ _).mono (fun _ h c => ?_) (Cert.Reference2Ideal.Value.run m' g')
  obtain ⟨h0, h1, h2⟩ := hargs c
  obtain ⟨r0, r1, r2, r3, r4, r5, r6, r7, r8, r9, r10, r11, r12, r13, r14, rest⟩ := h c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, rest⟩
  · refine (Cert.Reference2Ideal.Proj.result_0 _ _ _).trans (Eq.trans ?_ (Cert.Kernel2Ideal.Proj.array_3 m c).symm)
    rw [h0, h1, h2]
    rfl
  · refine (Cert.Reference2Ideal.Proj.result_1 _ _ _).trans (Eq.trans ?_ (Cert.Kernel2Ideal.Proj.array_4 m c).symm)
    rw [h0, h1, h2]
    rfl
  · refine (Cert.Reference2Ideal.Proj.result_2 _ _ _).trans (Eq.trans ?_ (Cert.Kernel2Ideal.Proj.array_5 m c).symm)
    rw [h0, h1, h2]
    rfl
  · refine (Cert.Reference2Ideal.Proj.result_3 _ _ _).trans (Eq.trans ?_ (Cert.Kernel2Ideal.Proj.array_6 m c).symm)
    rw [h0, h1, h2]
    rfl
  · refine (Cert.Reference2Ideal.Proj.result_4 _ _ _).trans (Eq.trans ?_ (Cert.Kernel2Ideal.Proj.array_7 m c).symm)
    rw [h0, h1, h2]
    rfl
  · refine (Cert.Reference2Ideal.Proj.result_5 _ _ _).trans (Eq.trans ?_ (Cert.Kernel2Ideal.Proj.array_8 m c).symm)
    rw [h0, h1, h2]
    rfl
  · refine (Cert.Reference2Ideal.Proj.result_6 _ _ _).trans (Eq.trans ?_ (Cert.Kernel2Ideal.Proj.array_9 m c).symm)
    rw [h0, h1, h2]
    rfl
  · refine (Cert.Reference2Ideal.Proj.result_7 _ _ _).trans (Eq.trans ?_ (Cert.Kernel2Ideal.Proj.array_10 m c).symm)
    rw [h0, h1, h2]
    rfl
  · refine (Cert.Reference2Ideal.Proj.result_8 _ _ _).trans (Eq.trans ?_ (Cert.Kernel2Ideal.Proj.array_11 m c).symm)
    rw [h0, h1, h2]
    rfl
  · refine (Cert.Reference2Ideal.Proj.result_9 _ _ _).trans (Eq.trans ?_ (Cert.Kernel2Ideal.Proj.array_12 m c).symm)
    rw [h0, h1, h2]
    rfl
  · refine (Cert.Reference2Ideal.Proj.result_10 _ _ _).trans (Eq.trans ?_ (Cert.Kernel2Ideal.Proj.array_13 m c).symm)
    rw [h0, h1, h2]
    rfl
  · refine (Cert.Reference2Ideal.Proj.result_11 _ _ _).trans (Eq.trans ?_ (Cert.Kernel2Ideal.Proj.array_14 m c).symm)
    rw [h0, h1, h2]
    rfl
  · refine (Cert.Reference2Ideal.Proj.result_12 _ _ _).trans (Eq.trans ?_ (Cert.Kernel2Ideal.Proj.array_15 m c).symm)
    rw [h0, h1, h2]
    rfl
  · refine (Cert.Reference2Ideal.Proj.result_13 _ _ _).trans (Eq.trans ?_ (Cert.Kernel2Ideal.Proj.array_16 m c).symm)
    rw [h0, h1, h2]
    rfl
  · refine (Cert.Reference2Ideal.Proj.result_14 _ _ _).trans (Eq.trans ?_ (Cert.Kernel2Ideal.Proj.array_17 m c).symm)
    rw [h0, h1, h2]
    rfl

/-- The value claim of the output projection: every result array of the kernel is the reference's. -/
theorem values3 : Cert.algebraic_Kernel3Ideal_Reference3Ideal := by
  intro m g m' g' hm hargs
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    Cert.Kernel3Ideal.Value.run_blocks m g, ?_⟩
  refine (θ_run _ _ _).mono (fun _ h c => ?_) (Cert.Reference3Ideal.Value.run m' g')
  obtain ⟨h0, h1, h2, h3, h4, h5⟩ := hargs c
  obtain ⟨r0, r1, rest⟩ := h c
  refine ⟨r0.trans ?_, r1.trans ?_, rest⟩
  · refine (Cert.Reference3Ideal.Outproj.result_0 _ _ _ _ _).trans (Eq.trans ?_ (Cert.Kernel3Ideal.Outproj.array_6 m c).symm)
    rw [h0, h1, h2, h3, h4]
    rfl
  · refine (Cert.Reference3Ideal.Outproj.result_1 _ _ _ _ _ _).trans (Eq.trans ?_ (Cert.Kernel3Ideal.Outproj.array_7 m c).symm)
    rw [h0, h1, h2, h3, h4, h5]
    rfl

/-- The value claim of the feed-forward part: every result array of the kernel is the reference's. -/
theorem values4 : Cert.algebraic_Kernel4Ideal_Reference4Ideal := by
  intro m g m' g' hm hargs
  refine ⟨fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    Cert.Kernel4Ideal.Ffn.run_blocks m g, ?_⟩
  refine (θ_run _ _ _).mono (fun _ h c => ?_) (Cert.Reference4Ideal.Value.run m' g')
  obtain ⟨h0, h1, h2, h3, h4, h5, h6, h7⟩ := hargs c
  obtain ⟨r0, r1, r2, rest⟩ := h c
  refine ⟨r0.trans ?_, r1.trans ?_, r2.trans ?_, rest⟩
  · refine (Cert.Reference4Ideal.Ffn.result_0 _ _ _ _ _ _ _ _).trans (Eq.trans ?_ (Cert.Kernel4Ideal.Ffn.array_12 m c).symm)
    rw [h0, h1, h2, h3, h4, h5, h6, h7]
  · refine (Cert.Reference4Ideal.Ffn.result_1 _ _ _).trans (Eq.trans ?_ (Cert.Kernel4Ideal.Ffn.array_13 m c).symm)
    rw [h0, h2]
  · refine (Cert.Reference4Ideal.Ffn.result_2 _ _ _).trans (Eq.trans ?_ (Cert.Kernel4Ideal.Ffn.array_14 m c).symm)
    rw [h0, h2]

/-- The claims of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  trivial, values, trivial, values2, trivial, values3, trivial, values4⟩

end Cert.Proof

end
